-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S2x2x512x1024 : Shape := ⟨4, ![2, 2, 512, 1024]⟩
abbrev S4x2x512x1024 : Shape := ⟨4, ![4, 2, 512, 1024]⟩
abbrev S3x2 : Shape := ⟨2, ![3, 2]⟩
abbrev S2x2 : Shape := ⟨2, ![2, 2]⟩
abbrev S_ : Shape := ⟨0, ![]⟩
abbrev S512x1024 : Shape := ⟨2, ![512, 1024]⟩
abbrev S1024x1024 : Shape := ⟨2, ![1024, 1024]⟩
abbrev S1x1x512x1024 : Shape := ⟨4, ![1, 1, 512, 1024]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1024x2048, .f32⟩
  | .local _ .vmem, ⟨0, _⟩ => ⟨S4096x1024, .bf16⟩
  | .local _ .vmem, ⟨1, _⟩ => ⟨S1024x2048, .bf16⟩
  | .local _ .vmem, ⟨2, _⟩ => ⟨S4096x1024, .bf16⟩
  | .local _ .vmem, ⟨3, _⟩ => ⟨S1024x2048, .bf16⟩
  | .local _ .vmem, ⟨4, _⟩ => ⟨S2x2x512x1024, .f32⟩
  | .local _ .vmem, ⟨5, _⟩ => ⟨S4x2x512x1024, .bf16⟩
  | .local _ .vmem, ⟨6, _⟩ => ⟨S4x2x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_22 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_17 : BitVec 32 := 4#32
  let v23 : BitVec 32 := Scalar.addi v2 c4_i32_17
  let c1_i32_18 : BitVec 32 := 1#32
  let v24 : BitVec 32 := Scalar.subi v23 c1_i32_18
  let c4_i32_19 : BitVec 32 := 4#32
  let v25 : BitVec 32 := Scalar.remsi v24 c4_i32_19
  let c1024_i32 : BitVec 32 := 1024#32
  let v28 : BitVec 32 := Scalar.muli v25 c1024_i32
  let v29 : BitVec 32 := Scalar.addi v28 c0_i32_22
  let v30 : Index := Scalar.indexCast v29
  let c0_23 : Index := 0#32
  ![v30.toNat, 0]
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_36 : BitVec 32 := 1#32
  let v38 : BitVec 32 := Scalar.muli v7 c1_i32_36
  let v39 : BitVec 32 := Scalar.addi c0_i32_37 v38
  v39.toNat
def k0_off2 (d0 : Dev nD) (c0_i32_43 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v26 : BitVec 32 := Scalar.addi v2 c1_i32_20
  let c4_i32_21 : BitVec 32 := 4#32
  let v27 : BitVec 32 := Scalar.remsi v26 c4_i32_21
  let c1024_i32_42 : BitVec 32 := 1024#32
  let v48 : BitVec 32 := Scalar.muli v27 c1024_i32_42
  let v49 : BitVec 32 := Scalar.addi v48 c0_i32_43
  let v50 : Index := Scalar.indexCast v49
  let c0_44 : Index := 0#32
  ![v50.toNat, 0]
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_59 : BitVec 32 := 1#32
  let v58 : BitVec 32 := Scalar.muli v5 c1_i32_59
  let v59 : BitVec 32 := Scalar.addi c0_i32_60 v58
  v59.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_81 : BitVec 32 := 1#32
  let v78 : BitVec 32 := Scalar.muli v7 c1_i32_81
  let v79 : BitVec 32 := Scalar.addi c0_i32_82 v78
  v79.toNat
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_105 : BitVec 32 := 1#32
  let v98 : BitVec 32 := Scalar.muli v5 c1_i32_105
  let v99 : BitVec 32 := Scalar.addi c0_i32_106 v98
  v99.toNat
def k0_off3 (d0 : Dev nD) (c0_i32_112 : BitVec 32) (c0_i32_118 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c12_i32 : BitVec 32 := 12#32
  let v108 : BitVec 32 := Scalar.addi v2 c12_i32
  let c2_i32_111 : BitVec 32 := 2#32
  let v109 : BitVec 32 := Scalar.subi v108 c2_i32_111
  let v110 : BitVec 32 := Scalar.subi v109 c0_i32_112
  let c4_i32_113 : BitVec 32 := 4#32
  let v111 : BitVec 32 := Scalar.remsi v110 c4_i32_113
  let c1024_i32_117 : BitVec 32 := 1024#32
  let v115 : BitVec 32 := Scalar.muli v111 c1024_i32_117
  let v116 : BitVec 32 := Scalar.addi v115 c0_i32_118
  let v117 : Index := Scalar.indexCast v116
  let c0_119 : Index := 0#32
  ![v117.toNat, 0]
def k0_off4 (d0 : Dev nD) (c0_i32_115 : BitVec 32) (c0_i32_124 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_114 : BitVec 32 := 2#32
  let v112 : BitVec 32 := Scalar.addi v2 c2_i32_114
  let v113 : BitVec 32 := Scalar.addi v112 c0_i32_115
  let c4_i32_116 : BitVec 32 := 4#32
  let v114 : BitVec 32 := Scalar.remsi v113 c4_i32_116
  let c1024_i32_123 : BitVec 32 := 1024#32
  let v121 : BitVec 32 := Scalar.muli v114 c1024_i32_123
  let v122 : BitVec 32 := Scalar.addi v121 c0_i32_124
  let v123 : Index := Scalar.indexCast v122
  let c0_125 : Index := 0#32
  ![v123.toNat, 0]
def k0_dev7 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_159 : BitVec 32 := 1#32
  let v143 : BitVec 32 := Scalar.muli v7 c1_i32_159
  let v144 : BitVec 32 := Scalar.addi c0_i32_160 v143
  v144.toNat
def k0_dev8 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_208 : BitVec 32 := 1#32
  let v175 : BitVec 32 := Scalar.muli v5 c1_i32_208
  let v176 : BitVec 32 := Scalar.addi c0_i32_209 v175
  v176.toNat
def k0_dev9 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_269 : BitVec 32 := 1#32
  let v219 : BitVec 32 := Scalar.muli v7 c1_i32_269
  let v220 : BitVec 32 := Scalar.addi c0_i32_270 v219
  v220.toNat
def k0_dev10 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_318 : BitVec 32 := 1#32
  let v251 : BitVec 32 := Scalar.muli v5 c1_i32_318
  let v252 : BitVec 32 := Scalar.addi c0_i32_319 v251
  v252.toNat
def k0_dev11 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_386 : BitVec 32 := 1#32
  let v302 : BitVec 32 := Scalar.muli v7 c1_i32_386
  let v303 : BitVec 32 := Scalar.addi c0_i32_387 v302
  v303.toNat
def k0_dev12 (d0 : Dev nD) : Nat :=
  let c0_i32_436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_435 : BitVec 32 := 1#32
  let v334 : BitVec 32 := Scalar.muli v5 c1_i32_435
  let v335 : BitVec 32 := Scalar.addi c0_i32_436 v334
  v335.toNat
def k0_dev13 (d0 : Dev nD) : Nat :=
  let c0_i32_497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_496 : BitVec 32 := 1#32
  let v378 : BitVec 32 := Scalar.muli v7 c1_i32_496
  let v379 : BitVec 32 := Scalar.addi c0_i32_497 v378
  v379.toNat
def k0_dev14 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_545 : BitVec 32 := 1#32
  let v410 : BitVec 32 := Scalar.muli v5 c1_i32_545
  let v411 : BitVec 32 := Scalar.addi c0_i32_546 v410
  v411.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Ring.lean ====
/-
The protocol of the two-way ring: the devices' neighbours, the slots of the two communication buffers, the cells
(one barrier semaphore and 28 DMA semaphores a device) with the duties paid on them and what each hands over, and the
contents that travel. Each device's columns are split in a lower and an upper half; the lower half travels one way
round the ring (direction `false`, to the next device), the upper half the other way (direction `true`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ViewIndex

@[expose] public section

noncomputable section

namespace Cert.Kern

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: any memory `m`, all counters zero, any generator registers. -/
def s₀ : MemSt nD τ sig (Elt F) := ⟨m, fun _ => 0, ρ⟩

/-! ## The ring -/

set_option backward.proofsInPublic true in
/-- The neighbour that direction `d` sends to: the next device, or the one before. -/
def peer (d : Bool) (c : Dev nD) : Dev nD := ⟨(c.val + cond d 3 1) % 4, Nat.mod_lt _ (by decide)⟩

/-- Going one way and then the other leads back. -/
theorem peer_peer (d : Bool) (c : Dev nD) : peer (!d) (peer d c) = c := by revert d c; decide
/-- The same the other way round. -/
theorem peer_peer' (d : Bool) (c : Dev nD) : peer d (peer (!d) c) = c := by revert d c; decide

/-- Stepping in direction `d` is a permutation of the devices. -/
def ring (d : Bool) : Dev nD ≃ Dev nD := ⟨peer d, peer (!d), peer_peer d, peer_peer' d⟩

/-- A device number in the closed form the generator gives is the neighbour. -/
theorem dev_eq (d : Bool) (c : Dev nD) {n : ℕ} {h : n < nD} (hn : n = (c.val + cond d 3 1) % 4) : (⟨n, h⟩ : Dev nD) = peer d c :=
  Fin.ext hn

/-! ## Buffers, slots and semaphores -/

/-- The communication buffer of a direction. -/
abbrev M (d : Bool) : Memref sig .tc .vmem S4x2x512x1024 .bf16 := match d with
  | false => Memref.whole cc0_scratch3
  | true => Memref.whole cc0_scratch4
abbrev xbM : Memref sig .tc .vmem S4096x1024 .bf16 := Memref.whole cc0_scratch0
abbrev wbM : Memref sig .tc .vmem S1024x2048 .bf16 := Memref.whole cc0_scratch1
abbrev resM : Memref sig .tc .vmem S2x2x512x1024 .f32 := Memref.whole cc0_scratch2
abbrev outM : Memref sig .tc .hbm S1024x2048 .f32 := Memref.whole main_v1
abbrev xM : Memref sig .tc .vmem S4096x1024 .bf16 := Memref.whole cc0_stg0_0
abbrev wM : Memref sig .tc .vmem S1024x2048 .bf16 := Memref.whole cc0_stg1_0

/-- A half's number. -/
abbrev hlf (d : Bool) : ℕ := cond d 1 0

abbrev slotOff (a : Fin 4) (s : Fin 2) : Fin 4 → ℕ := ![a.val, s.val, 0, 0]
/-- Slots lie inside the ring buffer. -/
theorem slotInb (a : Fin 4) (s : Fin 2) : ∀ k, slotOff a s k + S1x1x512x1024.size k ≤ S4x2x512x1024.size k := by
  revert a s; decide +kernel
/-- Slot `(a, s)` of a communication buffer, as a rectangle. -/
abbrev slotR (a : Fin 4) (s : Fin 2) : Rect S4x2x512x1024 := Rect.unit (s := S4x2x512x1024) (slotOff a s) S1x1x512x1024.size (slotInb a s)
/-- The slot as the transfers name it. -/
abbrev slotM (d : Bool) (a : Fin 4) (s : Fin 2) : Memref sig .tc .vmem S512x1024 .bf16 :=
  ((M d).slice (slotR a s) (fun _ => rfl)).squeeze S512x1024 squeezes_S1x1x512x1024_S512x1024

abbrev resOff (s : Fin 2) (d : Bool) : Fin 4 → ℕ := ![s.val, hlf d, 0, 0]
/-- Result slots lie inside the result buffer. -/
theorem resInb (s : Fin 2) (d : Bool) : ∀ k, resOff s d k + S1x1x512x1024.size k ≤ S2x2x512x1024.size k := by
  revert s d; decide +kernel
/-- A tile of the result buffer: sub-block `s` of half `d`. -/
abbrev resR (s : Fin 2) (d : Bool) : Rect S2x2x512x1024 := Rect.unit (s := S2x2x512x1024) (resOff s d) S1x1x512x1024.size (resInb s d)
abbrev resS (s : Fin 2) (d : Bool) : Memref sig .tc .vmem S512x1024 .f32 :=
  (resM.slice (resR s d) (fun _ => rfl)).squeeze S512x1024 squeezes_S1x1x512x1024_S512x1024

abbrev outOff (s : Fin 2) (d : Bool) : Fin 2 → ℕ := ![512 * s.val, 1024 * hlf d]
/-- Result tiles lie inside the result array. -/
theorem outInb (s : Fin 2) (d : Bool) : ∀ k, outOff s d k + S512x1024.size k ≤ S1024x2048.size k := by
  revert s d; decide +kernel
/-- The tile of the output array that result tile `(s, d)` is copied to. -/
abbrev outR (s : Fin 2) (d : Bool) : Rect S1024x2048 := Rect.unit (s := S1024x2048) (outOff s d) S512x1024.size (outInb s d)
abbrev outS (s : Fin 2) (d : Bool) : Memref sig .tc .hbm S512x1024 .f32 := outM.slice (outR s d) (fun _ => rfl)

/-- The barrier semaphore (not the launch's own). -/
abbrev barS : Sem sig := (SemArray.scalar (sig.barrier 0 rfl) : Sems sig S_).sem

/-- Hop semaphores lie inside their array. -/
theorem semInb (h : Fin 3) (s : Fin 2) : ∀ k, (![h.val, s.val] : Fin 2 → ℕ) k + S1x1.size k ≤ S3x2.size k := by
  revert h s; decide +kernel
abbrev semIn (A : DmaSems sig S3x2) (h : Fin 3) (s : Fin 2) : DmaSem sig :=
  ((A.slice (Rect.unit (s := S3x2) ![h.val, s.val] S1x1.size (semInb h s))).squeeze S_ squeezes_S1x1_S_).sem
/-- Write-out semaphores lie inside their array. -/
theorem osemInb (s : Fin 2) (d : Bool) : ∀ k, (![s.val, hlf d] : Fin 2 → ℕ) k + S1x1.size k ≤ S2x2.size k := by
  revert s d; decide +kernel

/-- A hop of a sub-block: its direction, the hop's number, the sub-block. -/
abbrev Chan : Type := Bool × Fin 3 × Fin 2

/-- The semaphore a hop's departure is counted on; -/
abbrev sendS (x : Chan) : DmaSem sig := match x with
  | (false, h, s) => semIn cc0_scratch5 h s
  | (true, h, s) => semIn cc0_scratch7 h s
/-- its arrival, on the receiving device; -/
abbrev recvS (x : Chan) : DmaSem sig := match x with
  | (false, h, s) => semIn cc0_scratch6 h s
  | (true, h, s) => semIn cc0_scratch8 h s
/-- and the copy of a result tile to the output. -/
abbrev outSem (y : Fin 2 × Bool) : DmaSem sig :=
  ((cc0_scratch9.slice (Rect.unit (s := S2x2) ![y.1.val, hlf y.2] S1x1.size (osemInb y.1 y.2))).squeeze S_ squeezes_S1x1_S_).sem

/-! ## Cells -/

/-- The cells of one device: the barrier, a departure and an arrival for each hop, a copy for each result tile. -/
abbrev CK : Type := Unit ⊕ (Chan ⊕ (Chan ⊕ (Fin 2 × Bool)))
instance : DecidableEq CK := instDecidableEqSum
abbrev kBar : CK := .inl ()
abbrev kSnd (x : Chan) : CK := .inr (.inl x)
abbrev kRcv (x : Chan) : CK := .inr (.inr (.inl x))
abbrev kOut (y : Fin 2 × Bool) : CK := .inr (.inr (.inr y))

abbrev csem (k : CK) : SemLoc sig := match k with
  | .inl _ => .reg barS
  | .inr (.inl x) => .dma (sendS x)
  | .inr (.inr (.inl x)) => .dma (recvS x)
  | .inr (.inr (.inr y)) => .dma (outSem y)
abbrev kcell (ck : Dev nD × CK) : GSem nD τ sig := ((ck.1 : Thread nD τ), csem ck.2)

/-- The pool number of a DMA semaphore of the kernel. -/
theorem sendS_val (x : Chan) : (sendS x).val = cond x.1 14 2 + 2 * x.2.1.val + x.2.2.val := by revert x; decide +kernel
/-- The number of an arrival semaphore. -/
theorem recvS_val (x : Chan) : (recvS x).val = cond x.1 20 8 + 2 * x.2.1.val + x.2.2.val := by revert x; decide +kernel
/-- The number of a write-out semaphore. -/
theorem outSem_val (y : Fin 2 × Bool) : (outSem y).val = 26 + 2 * y.1.val + hlf y.2 := by revert y; decide +kernel

/-- The kind of a cell, read off its semaphore. -/
def kOf (sm : SemLoc sig) : Option CK := match sm with
  | .reg _ => some kBar
  | .dma q =>
    if q.val < 2 then none
    else if q.val < 8 then some (kSnd (false, ⟨(q.val - 2) / 2 % 3, Nat.mod_lt _ (by decide)⟩, ⟨(q.val - 2) % 2, Nat.mod_lt _ (by decide)⟩))
    else if q.val < 14 then some (kRcv (false, ⟨(q.val - 8) / 2 % 3, Nat.mod_lt _ (by decide)⟩, ⟨(q.val - 8) % 2, Nat.mod_lt _ (by decide)⟩))
    else if q.val < 20 then some (kSnd (true, ⟨(q.val - 14) / 2 % 3, Nat.mod_lt _ (by decide)⟩, ⟨(q.val - 14) % 2, Nat.mod_lt _ (by decide)⟩))
    else if q.val < 26 then some (kRcv (true, ⟨(q.val - 20) / 2 % 3, Nat.mod_lt _ (by decide)⟩, ⟨(q.val - 20) % 2, Nat.mod_lt _ (by decide)⟩))
    else some (kOut (⟨(q.val - 26) / 2 % 2, Nat.mod_lt _ (by decide)⟩, decide ((q.val - 26) % 2 = 1)))

/-- Reading a cell's kind off its semaphore gives the kind back. -/
theorem kOf_csem (k : CK) : kOf (csem k) = some k := by
  rcases k with u | ⟨d, h, s⟩ | ⟨d, h, s⟩ | ⟨s, d⟩
  · rfl
  all_goals
    unfold kOf
    first | simp only [sendS_val] | simp only [recvS_val] | simp only [outSem_val]
    cases d <;> fin_cases s
  all_goals first | (fin_cases h <;> rfl) | rfl

/-- Different cells are different semaphores. -/
theorem csem_injective : Function.Injective csem := fun a b h => Option.some.inj (by rw [← kOf_csem a, ← kOf_csem b, h])

/-- Different cells of the mesh are different. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of one slot's transfer, and of one result tile's copy. -/
@[irreducible] def N : ℕ := (slotM false 0 0).view.dmaCredit
@[irreducible] def NO : ℕ := (outS 0 false).view.dmaCredit
theorem N_pos : 0 < N := by unfold N; exact View.dmaCredit_pos _ (by decide)
/-- So does a tile written out. -/
theorem NO_pos : 0 < NO := by unfold NO; exact View.dmaCredit_pos _ (by decide)

/-! ## Contents -/

/-- What device `c` stages of its two operands. -/
def xstg (c : Dev nD) : (cc0_stg0_0 : Ref sig .tc).ty.Contents (Elt F) :=
  (win0_0.blk (0 : Fin 1)).view.read (Elt F) ((s₀ m ρ).mem ((c : Thread nD τ).loc main_arg0))
/-- The same for `w`. -/
def wstg (c : Dev nD) : (cc0_stg1_0 : Ref sig .tc).ty.Contents (Elt F) :=
  (win0_1.blk (0 : Fin 1)).view.read (Elt F) ((s₀ m ρ).mem ((c : Thread nD τ).loc main_arg1))

/-- The working copies the body makes of them. -/
def xb (c : Dev nD) : (cc0_scratch0 : Ref sig .tc).ty.Contents (Elt F) := k0_pay1 (xstg m ρ c)
/-- The working copy of `w`. -/
def wb (c : Dev nD) : (cc0_scratch1 : Ref sig .tc).ty.Contents (Elt F) := k0_pay2 (wstg m ρ c)

abbrev rowOff (q : Fin 4) (s : Fin 2) : Fin 2 → ℕ := ![1024 * q.val + 512 * s.val, 0]
/-- A sub-block of rows lies inside `x`. -/
theorem rowInb (q : Fin 4) (s : Fin 2) : ∀ k, rowOff q s k + S512x1024.size k ≤ S4096x1024.size k := by
  revert q s; decide +kernel
abbrev rowR (q : Fin 4) (s : Fin 2) : Rect S4096x1024 := Rect.unit (s := S4096x1024) (rowOff q s) S512x1024.size (rowInb q s)
abbrev colOff (d : Bool) : Fin 2 → ℕ := ![0, 1024 * hlf d]
/-- A half of the columns lies inside `w`. -/
theorem colInb (d : Bool) : ∀ k, colOff d k + S1024x1024.size k ≤ S1024x2048.size k := by revert d; decide +kernel
abbrev colR (d : Bool) : Rect S1024x2048 := Rect.unit (s := S1024x2048) (colOff d) S1024x1024.size (colInb d)

/-- Rows `512 s …` of chunk `q` of device `c`'s `x`, and half `d` of its `w`'s columns. -/
def xrow (c : Dev nD) (q : Fin 4) (s : Fin 2) : Vec F S512x1024 .bf16 := xbM.view.readAt (Elt F) (rowR q s).toLoadRect (xb m ρ c)
/-- Half `d` of the columns of device `c`'s `w`. -/
def wcol (c : Dev nD) (d : Bool) : Vec F S1024x1024 .bf16 := wbM.view.readAt (Elt F) (colR d).toLoadRect (wb m ρ c)

/-- The chunk that device `c` works on at stage `n` (stage 0 before the first hop, stage 3 after the last). -/
def chunk (d : Bool) (n : ℕ) (c : Dev nD) : Fin 4 := ⟨(if d then c.val + 1 + n else c.val + 11 - n) % 4, Nat.mod_lt _ (by decide)⟩

/-- Device `c`'s own contribution at stage `n`. -/
def part (d : Bool) (n : ℕ) (s : Fin 2) (c : Dev nD) : FVec F S512x1024 .f32 := k0_pay4 (xrow m ρ c (chunk d n c) s) (wcol m ρ c d)

/-- What device `c` sends at hop `h`: its contribution first, afterwards what it received with its contribution added. -/
def sent (d : Bool) : ℕ → Fin 2 → Dev nD → Vec F S1x1x512x1024 .bf16
  | 0, s, c => k0_pay5 (part m ρ d 0 s c)
  | h + 1, s, c => k0_pay10 (part m ρ d (h + 1) s c) (sent d h s (peer (!d) c))

/-- Device `c`'s result tile. -/
def res (s : Fin 2) (d : Bool) (c : Dev nD) : Vec F S1x1x512x1024 .f32 := k0_pay29 (part m ρ d 3 s c) (sent m ρ d 2 s (peer (!d) c))

/-! ## Holding slots and tiles -/

/-- The slot a hop leaves from: slot 3 at hop 0, afterwards the slot the hop before landed in. -/
abbrev srcIx (h : Fin 3) : Fin 4 := match h with | 0 => 3 | 1 => 0 | 2 => 1

abbrev slotV (d : Bool) (a : Fin 4) (s : Fin 2) : View sig .tc .vmem S1x1x512x1024 .bf16 := (M d).access (slotR a s)
abbrev resV (s : Fin 2) (d : Bool) : View sig .tc .vmem S1x1x512x1024 .f32 := resM.access (resR s d)

/-- A slot held with the buffer contents `f`. -/
def slotPt (d : Bool) (a : Fin 4) (s : Fin 2) (c : Dev nD) (f : Buf (Elt F) ((slotM d a s).view.loc (c : Thread nD τ))) : sProp 𝕄 :=
  (slotM d a s).view.loc (c : Thread nD τ) ↦[(slotM d a s).view.set]{fullShare} f
/-- Device `c`'s slot holding the vector `V`; -/
def slotAt (d : Bool) (a : Fin 4) (s : Fin 2) (c : Dev nD) (V : Vec F S1x1x512x1024 .bf16) : sProp 𝕄 :=
  iprop(∃ f, ⌜(slotV d a s).read (Elt F) f = V⌝ ∗ slotPt d a s c f)
/-- holding anything. -/
def slotAny (d : Bool) (a : Fin 4) (s : Fin 2) (c : Dev nD) : sProp 𝕄 := iprop(∃ f, slotPt d a s c f)

/-- A result slot held with the buffer contents `f`. -/
def resPt (s : Fin 2) (d : Bool) (c : Dev nD) (f : Buf (Elt F) ((resS s d).view.loc (c : Thread nD τ))) : sProp 𝕄 :=
  (resS s d).view.loc (c : Thread nD τ) ↦[(resS s d).view.set]{fullShare} f
/-- A result slot held with the value `V` in it. -/
def resAt (s : Fin 2) (d : Bool) (c : Dev nD) (V : Vec F S1x1x512x1024 .f32) : sProp 𝕄 :=
  iprop(∃ f, ⌜(resV s d).read (Elt F) f = V⌝ ∗ resPt s d c f)
/-- A result slot held, whatever is in it. -/
def resAny (s : Fin 2) (d : Bool) (c : Dev nD) : sProp 𝕄 := iprop(∃ f, resPt s d c f)

/-- A tile and a slot have as many elements. -/
theorem numelQB : S512x1024.numel = S1x1x512x1024.numel := by decide +kernel

/-- A tile of the result array held with the array contents `f`. -/
def outPt (s : Fin 2) (d : Bool) (c : Dev nD) (f : Buf (Elt F) ((outS s d).view.loc (c : Thread nD τ))) : sProp 𝕄 :=
  (outS s d).view.loc (c : Thread nD τ) ↦[(outS s d).view.set]{fullShare} f
/-- The output's tile holding the result tile `V`. -/
def outAt (s : Fin 2) (d : Bool) (c : Dev nD) (V : Vec F S1x1x512x1024 .f32) : sProp 𝕄 :=
  iprop(∃ f, ⌜(outS s d).view.read (Elt F) f = fun i => V (Shape.reshapeEquiv numelQB i)⌝ ∗ outPt s d c f)
/-- A tile of the result array held, whatever is in it. -/
def outAny (s : Fin 2) (d : Bool) (c : Dev nD) : sProp 𝕄 := iprop(∃ f, outPt s d c f)

omit [FloatOps F] in
instance slotPt_storable (d a s c f) : BI.Storable (upEmb : UEmb _ 𝕄) (slotPt (F := F) d a s c f) := by unfold slotPt; infer_instance
omit [FloatOps F] in
instance resPt_storable (s d c f) : BI.Storable (upEmb : UEmb _ 𝕄) (resPt (F := F) s d c f) := by unfold resPt; infer_instance
omit [FloatOps F] in
instance outPt_storable (s d c f) : BI.Storable (upEmb : UEmb _ 𝕄) (outPt (F := F) s d c f) := by unfold outPt; infer_instance
omit [FloatOps F] in
instance slotAt_storable (d a s c V) : BI.Storable (upEmb : UEmb _ 𝕄) (slotAt (F := F) d a s c V) := by unfold slotAt; infer_instance
omit [FloatOps F] in
instance slotAny_storable (d a s c) : BI.Storable (upEmb : UEmb _ 𝕄) (slotAny (F := F) d a s c) := by unfold slotAny; infer_instance
omit [FloatOps F] in
instance resAny_storable (s d c) : BI.Storable (upEmb : UEmb _ 𝕄) (resAny (F := F) s d c) := by unfold resAny; infer_instance
omit [FloatOps F] in
instance outAt_storable (s d c V) : BI.Storable (upEmb : UEmb _ 𝕄) (outAt (F := F) s d c V) := by unfold outAt; infer_instance

/-! ## The schedule -/

/-- The landing slots of device `c`'s buffer for direction `d`. -/
def gift (d : Bool) (c : Dev nD) : sProp 𝕄 := bigSep Finset.univ fun x : Fin 3 × Fin 2 => slotAny d x.1.castSucc x.2 c

/-- What the neighbour in direction `d` hands device `c` when it signals `c`'s barrier: the slots `c` will send into. -/
def barPay (d : Bool) (c : Dev nD) : sProp 𝕄 := gift d (peer d c)

/-- What paying duty `d` of a cell of device `c` hands its owner. -/
def pay (c : Dev nD) (k : CK) (d : Bool) : sProp 𝕄 := match k with
  | .inl _ => barPay d c
  | .inr (.inl x) => slotAt x.1 (srcIx x.2.1) x.2.2 c (sent m ρ x.1 x.2.1 x.2.2 c)
  | .inr (.inr (.inl x)) => slotAt x.1 x.2.1.castSucc x.2.2 c (sent m ρ x.1 x.2.1 x.2.2 (peer (!x.1) c))
  | .inr (.inr (.inr y)) => iprop(outAt y.1 y.2 c (res m ρ y.1 y.2 c) ∗ resAny y.1 y.2 c)

/-- Who pays into a cell in its one round: both neighbours at the barrier, one payer elsewhere. -/
def dutiesOf (k : Option CK) : Finset Bool := match k with
  | none => ∅
  | some (.inl _) => Finset.univ
  | some (.inr _) => {false}
/-- How much each payer of a cell pays. -/
def amountOf (k : Option CK) : ℕ := match k with
  | some (.inl _) => 1
  | some (.inr (.inr (.inr _))) => NO
  | _ => N
/-- Every payment is positive. -/
theorem amountOf_pos (k : Option CK) : 0 < amountOf k := by
  match k with
  | none => simp only [amountOf]; exact N_pos
  | some (.inl _) => simp only [amountOf]; exact Nat.one_pos
  | some (.inr (.inl _)) => simp only [amountOf]; exact N_pos
  | some (.inr (.inr (.inl _))) => simp only [amountOf]; exact N_pos
  | some (.inr (.inr (.inr _))) => simp only [amountOf]; exact NO_pos
/-- What comes with a payment. -/
def payOf (c : Dev nD) (k : Option CK) (d : Bool) : sProp 𝕄 := match k with
  | none => iprop(emp)
  | some k => pay m ρ c k d

/-- One round on every cell: two duties of one unit on a barrier, one duty of a transfer's credit on any other. -/
def ringRd : Rounds.Schedule (GSem nD τ sig) Bool 𝕄 where
  duties g r := if r = 0 ∧ g.1.2 = .tc then dutiesOf (kOf g.2) else ∅
  unitless _ := False
  amount g _ _ := amountOf (kOf g.2)
  payload g _ d := payOf m ρ g.1.1 (kOf g.2) d
  amount_pos g _ _ _ := amountOf_pos (kOf g.2)

instance ringRd_payload_storable (g : GSem nD τ sig) (r : ℕ) (d : Bool) :
    BI.Storable (upEmb : UEmb _ 𝕄) ((ringRd (F := F) m ρ).payload g r d) := by
  show BI.Storable upEmb (payOf m ρ g.1.1 (kOf g.2) d)
  unfold payOf pay barPay gift
  rcases kOf g.2 with _ | (_ | _ | _ | _) <;> dsimp only <;> infer_instance

section Tables
variable (c : Dev nD)

/-- A cell's payers in round 0. -/
theorem duties_at (k : CK) : (ringRd (F := F) m ρ).duties (kcell (c, k)) 0 = dutiesOf (some k) := by
  dsimp only [ringRd]; rw [if_pos ⟨rfl, rfl⟩, kOf_csem]
/-- No cell has a payer after round 0. -/
theorem duties_later (g : GSem nD τ sig) : ∀ r, 1 ≤ r → (ringRd (F := F) m ρ).duties g r = ∅ :=
  fun r hr => by dsimp only [ringRd]; rw [if_neg fun h => by omega]
/-- A cell's amounts. -/
theorem amount_at (k : CK) (r : ℕ) (d : Bool) : (ringRd (F := F) m ρ).amount (kcell (c, k)) r d = amountOf (some k) := by
  dsimp only [ringRd]; rw [kOf_csem]
/-- A cell's payloads. -/
theorem payload_at (k : CK) (r : ℕ) (d : Bool) : (ringRd (F := F) m ρ).payload (kcell (c, k)) r d = pay m ρ c k d := by
  dsimp only [ringRd]; rw [kOf_csem]; rfl
/-- The barrier awaits two signals. -/
theorem expect_bar : (ringRd (F := F) m ρ).expect (kcell (c, kBar)) 0 = 2 := by
  unfold Schedule.expect Schedule.amountOf
  rw [duties_at, Finset.sum_congr rfl fun d _ => amount_at m ρ c kBar 0 d]
  rfl
/-- A copy semaphore awaits one copy. -/
theorem expect_dma (k : Chan ⊕ (Chan ⊕ (Fin 2 × Bool))) : (ringRd (F := F) m ρ).expect (kcell (c, .inr k)) 0 = amountOf (some (.inr k)) := by
  unfold Schedule.expect Schedule.amountOf
  rw [duties_at]
  show ∑ d ∈ {false}, _ = _
  rw [Finset.sum_singleton, amount_at]
/-- What the barrier hands over: both neighbours' payloads. -/
theorem rest_bar : bigSep ((ringRd (F := F) m ρ).duties (kcell (c, kBar)) 0 \ ∅) (fun d => (ringRd (F := F) m ρ).payload (kcell (c, kBar)) 0 d)
    = iprop(barPay false c ∗ barPay true c) := by
  rw [Finset.sdiff_empty, duties_at]
  show bigSep Finset.univ _ = _
  rw [bigSep_univ_eq_bigSepL [false, true] (by decide) (by decide), bigSepL_cons_cons, bigSepL_singleton, payload_at, payload_at]
  rfl
/-- What a copy semaphore hands over. -/
theorem rest_dma (k : Chan ⊕ (Chan ⊕ (Fin 2 × Bool))) :
    bigSep ((ringRd (F := F) m ρ).duties (kcell (c, .inr k)) 0 \ ∅) (fun d => (ringRd (F := F) m ρ).payload (kcell (c, .inr k)) 0 d) = pay m ρ c (.inr k) false := by
  rw [Finset.sdiff_empty, duties_at]
  show bigSep {false} _ = _
  rw [bigSep_singleton, payload_at]

end Tables

/-! ## What each device owes, and the levels -/

/-- The hops in the order a device sends them. -/
def order : List Chan :=
  [(false, 0, 0), (true, 0, 0), (false, 0, 1), (true, 0, 1), (false, 1, 0), (true, 1, 0), (false, 1, 1), (true, 1, 1),
   (false, 2, 0), (true, 2, 0), (false, 2, 1), (true, 2, 1)]

/-- The hops still to send after `k` of them. -/
def todo (k : ℕ) : List Chan := order.drop k

/-- The credit device `c` owes its neighbours for the hops still to send. -/
def owe (c : Dev nD) : List Chan → CellTallies nD τ sig Unit
  | [] => 0
  | x :: l => owe c l + tallyAt (kcell (peer x.1 c, kRcv x)) () N

/-- After its first signal a device owes one barrier unit, before it two. -/
def O₁ (c : Dev nD) : CellTallies nD τ sig Unit := owe c order + tallyAt (kcell (peer false c, kBar)) () 1
/-- What a device owes when it starts. -/
def O₀ (c : Dev nD) : CellTallies nD τ sig Unit := O₁ c + tallyAt (kcell (peer true c, kBar)) () 1

/-- The labels of a cell: one on the compute core. -/
def L (g : GSem nD τ sig) : Finset Unit := if g.1.2 = .tc then {()} else ∅
/-- A barrier at level 1, an arrival of hop `h` at level `2 + h`, everything else at 0. -/
def lvK (k : Option CK) : ℕ := match k with
  | some (.inl _) => 1
  | some (.inr (.inr (.inl x))) => 2 + x.2.1.val
  | _ => 0
/-- The level of a cell. -/
def lv (g : GSem nD τ sig) (_ : Unit) : ℕ := lvK (kOf g.2)

/-- No label elsewhere. -/
theorem L_of_ne (g : GSem nD τ sig) (h : g.1.2 ≠ .tc) : L g = ∅ := if_neg h
/-- One label on the compute core. -/
theorem L_tc (c : Dev nD) (sm : SemLoc sig) : L ((c : Thread nD τ), sm) = {()} := if_pos rfl
/-- The level of a cell given by its key. -/
theorem lv_at (ck : Dev nD × CK) (u : Unit) : lv (kcell ck) u = lvK (some ck.2) := by unfold lv; rw [kOf_csem]

/-- Whatever a device owes for hops is owed on the arrival cell of one of them. -/
theorem owe_pos {c : Dev nD} {l : List Chan} {g : GSem nD τ sig} {u : Unit} (h : 0 < owe c l g u) : ∃ x ∈ l, g = kcell (peer x.1 c, kRcv x) := by
  induction l with
  | nil => exact absurd h (Nat.lt_irrefl 0)
  | cons x l ih =>
    unfold owe at h
    rw [Pi.add_apply, Finsupp.add_apply, tallyAt_apply] at h
    by_cases hx : g = kcell (peer x.1 c, kRcv x) ∧ u = ()
    · exact ⟨x, List.mem_cons_self .., hx.1⟩
    · rw [if_neg hx, Nat.add_zero] at h
      obtain ⟨y, hy, e⟩ := ih h
      exact ⟨y, List.mem_cons_of_mem _ hy, e⟩

/-- Whatever a device owes at launch is owed on a barrier or an arrival cell. -/
theorem O₀_pos {c : Dev nD} {g : GSem nD τ sig} {u : Unit} (h : 0 < O₀ c g u) :
    ∃ ck : Dev nD × CK, g = kcell ck ∧ 1 ≤ lvK (some ck.2) := by
  by_cases h1 : g = kcell (peer false c, kBar) ∧ u = ()
  · exact ⟨(peer false c, kBar), h1.1, by simp only [lvK]; exact le_refl 1⟩
  by_cases h2 : g = kcell (peer true c, kBar) ∧ u = ()
  · exact ⟨(peer true c, kBar), h2.1, by simp only [lvK]; exact le_refl 1⟩
  have h3 : 0 < owe c order g u := by
    unfold O₀ O₁ at h
    rw [Pi.add_apply, Finsupp.add_apply, Pi.add_apply, Finsupp.add_apply, tallyAt_apply, tallyAt_apply, if_neg h1, if_neg h2] at h
    exact h
  obtain ⟨x, -, e⟩ := owe_pos h3
  exact ⟨(peer x.1 c, kRcv x), e, by simp only [lvK]; omega⟩

omit [FloatOps F] in
/-- A device may wait on a cell below the level of every hop it still owes. -/
theorem mayWait_owe (c : Dev nD) (k : CK) (l : List Chan) (hl : ∀ x ∈ l, lvK (some k) < 2 + x.2.1.val) :
    (levAts L lv : sProp 𝕄) ⊢ MayWait (c : Thread nD τ) (csem k) () (owe c l) :=
  MayOwe.of_cut (L := L) (lev := lv) (lvK (some k)) (fun p hp => by rw [Finset.mem_singleton.mp hp, L_tc]; exact Finset.mem_singleton_self _)
    (fun g u hg => by obtain ⟨x, -, rfl⟩ := owe_pos hg; exact Finset.mem_singleton_self _)
    (fun p hp => by rw [Finset.mem_singleton.mp hp]; exact le_of_eq (lv_at (c, k) ()))
    (fun g u hg => by obtain ⟨x, hx, rfl⟩ := owe_pos hg; rw [lv_at]; exact hl x hx)

omit [FloatOps F] in
/-- The launch's own staging waits lie below everything a device owes. -/
theorem mayWait_stage (c : Dev nD) (q : DmaSem sig) (hq : lvK (kOf (.dma q)) = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by obtain ⟨ck, rfl, -⟩ := O₀_pos hg; exact Finset.mem_singleton_self _)
      (fun p hp => by rw [Finset.mem_singleton.mp hp]; exact le_of_eq hq)
      (fun g u hg => by obtain ⟨ck, rfl, h⟩ := O₀_pos hg; rw [lv_at]; exact h)
  · rw [MayWait_zero]; iintro -; iempintro

end Cert.Kern

end
-- ==== Proof.Steps.lean ====
/-
One lemma for each kind of step the kernel's body takes: a transfer to a neighbour, the waits for its departure and for
an arrival, the copy of a result tile to the output and its wait, and the loads and stores of slots, tiles and operands.
Each is stated once for any direction, hop and sub-block.
-/
module

public import proofs.«01_k».proof.Proof.Ring

@[expose] public section

noncomputable section

namespace Cert.Kern

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `e` on device `c`'s core to the postcondition `Q`. -/
abbrev run (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- A finished program is run. -/
theorem run_ret (c : Dev nD) {α : Type} {a : α} {Q : α → sProp (MT nD τ sig Unit (Elt F) ℕ UU ℕ)} : Q a ⊢ run c (Prog.ret a) Q := by
  unfold run; rw [wp_ret]; iintro H; imodintro; iexact H

/-- A program followed by another is run by running the first, then the second. -/
theorem run_bind (c : Dev nD) {α β : Type} (e : Prog (TpuEff nD τ sig (Elt F) Λ₀ .tc) α) (k : α → Prog (TpuEff nD τ sig (Elt F) Λ₀ .tc) β)
    (Q : β → sProp (MT nD τ sig Unit (Elt F) ℕ UU ℕ)) : run c (e >>= k) Q = run c e (fun a => run c (k a) Q) := wp_bind ..

/-! ## The credit of a slot and of a tile -/

/-- Every slot's copy credits the same amount. -/
theorem N_eq (d : Bool) (a : Fin 4) (s : Fin 2) : (slotM d a s).view.dmaCredit = N := by unfold N; cases d <;> rfl
/-- Every tile's copy credits the same amount. -/
theorem NO_eq (s : Fin 2) (d : Bool) : (outS s d).view.dmaCredit = NO := by unfold NO; rfl

/-! ## What every device knows -/

/-- At the names `K`: every cell's invariant, that every cell is at its only round, and the levels. -/
def recs (K : Dev nD × CK → ℕ) : sProp 𝕄 :=
  iprop((bigSep Finset.univ fun ck : Dev nD × CK => cellInv ER (ringRd m ρ) (K ck) (kcell ck))
    ∗ (bigSep Finset.univ fun ck : Dev nD × CK => reached ER (kcell ck) 0) ∗ levAts L lv)

instance recs_persistent (K) : BI.Persistent (recs m ρ K) := by unfold recs; infer_instance

/-- Every cell's invariant is on record. -/
theorem recs_inv (K) (ck : Dev nD × CK) : recs m ρ K ⊢ cellInv ER (ringRd m ρ) (K ck) (kcell ck) := by
  unfold recs; iintro ⟨H, -, -⟩; iapply (show (bigSep Finset.univ fun ck : Dev nD × CK => cellInv ER (ringRd m ρ) (K ck) (kcell ck)) ⊢ cellInv ER (ringRd m ρ) (K ck) (kcell ck) from bigSep_elim (Finset.mem_univ ck)); iexact H
/-- Every cell's round 0 is reached. -/
theorem recs_reached (K) (ck : Dev nD × CK) : recs m ρ K ⊢ reached ER (kcell ck) 0 := by
  unfold recs; iintro ⟨-, H, -⟩; iapply (show (bigSep Finset.univ fun ck : Dev nD × CK => (reached ER (kcell ck) 0 : sProp 𝕄)) ⊢ reached ER (kcell ck) 0 from bigSep_elim (Finset.mem_univ ck)); iexact H
/-- The levels are on record. -/
theorem recs_lev (K) : recs m ρ K ⊢ levAts L lv := by
  unfold recs; iintro ⟨-, -, H⟩; iexact H

/-- What a device still owes for the hops `l`, whatever waits it has recorded. -/
def owesL (c : Dev nD) (l : List Chan) : sProp 𝕄 := iprop(∃ W, owes (c : Thread nD τ) (owe c l) W)

/-! ## The states of a hop and of an output tile -/

/-- Before the hop: the slot it lands in, the tokens for both its ends, the device's place at the departure cell; -/
def hop₀ (x : Chan) (c : Dev nD) : sProp 𝕄 :=
  iprop(slotAny x.1 x.2.1.castSucc x.2.2 (peer x.1 c) ∗ dutyTok ER (kcell (c, kSnd x)) 0 false
    ∗ dutyTok ER (kcell (peer x.1 c, kRcv x)) 0 false ∗ atPos ER (kcell (c, kSnd x)) 0 ∅ 0)
/-- on its way; -/
def hop₁ (x : Chan) (c : Dev nD) : sProp 𝕄 := iprop(cred (tallyAt (kcell (c, kSnd x)) () N) ∗ atPos ER (kcell (c, kSnd x)) 0 ∅ 0)
/-- departed: the slot it left from is back. -/
def hop₂ (x : Chan) (c : Dev nD) : sProp 𝕄 := iprop(semVal (kcell (c, kSnd x)) 0 ∗ slotAny x.1 (srcIx x.2.1) x.2.2 c)
/-- An arrival still to come, -/
def arr₀ (x : Chan) (c : Dev nD) : sProp 𝕄 := iprop(cred (tallyAt (kcell (c, kRcv x)) () N) ∗ atPos ER (kcell (c, kRcv x)) 0 ∅ 0)
/-- and done. -/
def arr₁ (x : Chan) (c : Dev nD) : sProp 𝕄 := semVal (kcell (c, kRcv x)) 0
/-- An output tile before its copy, -/
def out₀ (y : Fin 2 × Bool) (c : Dev nD) : sProp 𝕄 :=
  iprop(outAny y.1 y.2 c ∗ dutyTok ER (kcell (c, kOut y)) 0 false ∗ atPos ER (kcell (c, kOut y)) 0 ∅ 0)
/-- during it, -/
def out₁ (y : Fin 2 × Bool) (c : Dev nD) : sProp 𝕄 := iprop(cred (tallyAt (kcell (c, kOut y)) () NO) ∗ atPos ER (kcell (c, kOut y)) 0 ∅ 0)
/-- and written. -/
def out₂ (y : Fin 2 × Bool) (c : Dev nD) : sProp 𝕄 :=
  iprop(semVal (kcell (c, kOut y)) 0 ∗ outAt y.1 y.2 c (res m ρ y.1 y.2 c) ∗ resAny y.1 y.2 c)

omit [FloatOps F] in
/-- A slot with a value in it is a slot. -/
theorem slotAt_any (d a s c V) : slotAt (F := F) d a s c V ⊢ slotAny d a s c := by
  unfold slotAt slotAny; iintro ⟨%f, -, H⟩; iexists f; iexact H

/-! ## Copies -/

omit [FloatOps F] in
/-- A slot copied to another reads there what it read here. -/
theorem read_copied {κ κ' : Kind} {sp sp' : Space} {s s' : Shape} {e : EltTy} (v : View sig κ sp s e) (w : View sig κ' sp' s e) (h : s'.numel = s.numel)
    (f : v.ty.Contents (Elt F)) (g : w.ty.Contents (Elt F)) :
    v.read (Elt F) ((v.reshape s' h).write (Elt F) f ((w.reshape s' h).read (Elt F) g) Finset.univ) = w.read (Elt F) g := by
  funext i
  obtain ⟨j, rfl⟩ := (Shape.reshapeEquiv h).surjective i
  rw [View.read_write_reshape]; rfl

/-! ## Transfers -/

section Steps

variable (K : Dev nD × CK → ℕ) {α : Type} {Q : α → sProp (MT nD τ sig Unit (Elt F) ℕ UU ℕ)}

/-- A device sends a slot to the neighbour in its direction. -/
theorem step_send (x : Chan) (l : List Chan) (c n : Dev nD) (hn : n = peer x.1 c)
    {hsc : (slotM x.1 x.2.1.castSucc x.2.2).view.ref.isScScratch = false}
    {hsrc : (slotM x.1 (srcIx x.2.1) x.2.2).view.WordExact} {hdst : (slotM x.1 x.2.1.castSucc x.2.2).view.WordExact}
    {hsem : DmaTarget.Typed .vmem (.dma (recvS x)) (.remote (Dev.tc n : Thread nD τ) (slotM x.1 x.2.1.castSucc x.2.2) (.dma (sendS x)) hsc)}
    {k : PUnit → Prog (TpuEff nD τ sig (Elt F) Λ₀ .tc) α} :
    recs m ρ K
      ⊢ iprop(hop₀ x c -∗ slotAt x.1 (srcIx x.2.1) x.2.2 c (sent m ρ x.1 x.2.1 x.2.2 c) -∗ owesL c (x :: l) -∗ ((hop₁ x c ∗ owesL c l) -∗ run c (k ⟨⟩) Q)
          -∗ run c (.op (.enqueueDma (slotM x.1 (srcIx x.2.1) x.2.2)
              (.remote (Dev.tc n : Thread nD τ) (slotM x.1 x.2.1.castSucc x.2.2) (.dma (sendS x)) hsc) (.dma (recvS x)) hsrc hdst hsem) k) Q) := by
  subst hn
  unfold hop₀ hop₁ owesL slotAny slotAt slotPt
  iintro #HR ⟨⟨%fd, Hd⟩, Ht1, Ht2, Hat⟩ ⟨%fs, %hf, Hs⟩ ⟨%W, HO⟩ Hk
  iapply (Rounds.wp_send_pointsTo 𝒱₀ ER (ringRd m ρ) (c : Thread nD τ) none (κ₁ := K (c, kSnd x)) (κ₂ := K (peer x.1 c, kRcv x))
    (sS := .dma (sendS x)) (sem := .dma (recvS x)) (r₁ := 0) (r₂ := 0) (d₁ := false) (d₂ := false) (fs := fs) (fd := fd) (q := fullShare)
    (by rw [duties_at m ρ c (kSnd x)]; exact Finset.mem_singleton_self _) (by rw [duties_at m ρ (peer x.1 c) (kRcv x)]; exact Finset.mem_singleton_self _)
    () () N (N_eq _ _ _) (amount_at m ρ c (kSnd x) 0 false) (amount_at m ρ (peer x.1 c) (kRcv x) 0 false) (owe c l) rfl (W := W)
    (by rw [payload_at m ρ c (kSnd x)]; unfold pay slotAt slotPt
        iintro H; iexists fs; isplitr; · ipureintro; exact hf
        iexact H)
    (by rw [payload_at m ρ (peer x.1 c) (kRcv x)]; unfold pay slotAt slotPt
        iintro H; iexists _; isplitr; swap
        · iexact H
        ipureintro; rw [peer_peer]; exact (read_copied (slotV x.1 x.2.1.castSucc x.2.2) (slotV x.1 (srcIx x.2.1) x.2.2) _ fd fs).trans hf)) $$ [Hd Hs Ht1 Ht2 HO]
  · isplitr; · iapply (recs_inv m ρ K (c, kSnd x)); iexact HR
    isplitr; · iapply (recs_inv m ρ K (peer x.1 c, kRcv x)); iexact HR
    isplitl [Hs]; · iexact Hs
    isplitl [Hd]; · iexact Hd
    isplitl [HO]; · iexact HO
    isplitl [Ht1]; · iexact Ht1
    isplitr; · iapply (recs_reached m ρ K (c, kSnd x)); iexact HR
    isplitl [Ht2]; · iexact Ht2
    iapply (recs_reached m ρ K (peer x.1 c, kRcv x)); iexact HR
  iintro ⟨Hc, HO⟩
  iapply Hk
  isplitr [HO]
  · isplitl [Hc] <;> iassumption
  iexists W; iexact HO

/-- A device waits until a slot it sent has left. -/
theorem step_departed (x : Chan) (l : List Chan) (c : Dev nD) (d : Bool) (a : Fin 4) (s : Fin 2)
    {sp : Space} {sh : Shape} {e : EltTy} {src : Memref sig .tc sp sh e} {p : src.view.WordExact} {q : (slotM d a s).view.WordExact}
    {k : PUnit → Prog (TpuEff nD τ sig (Elt F) Λ₀ .tc) α} :
    recs m ρ K ⊢ iprop(hop₁ x c -∗ owesL c l -∗ ((hop₂ x c ∗ owesL c l) -∗ run c (k ⟨⟩) Q) -∗ run c (.op (.waitDma2 (sendS x) src (slotM d a s) p q) k) Q) := by
  unfold hop₁ hop₂ owesL
  iintro #HR ⟨Hc, Hat⟩ ⟨%W, HO⟩ Hk
  iapply (Rounds.wp_wait_rest_token 𝒱₀ ER (ringRd m ρ) (c : Thread nD τ) none (κ := K (c, kSnd x))
      (wpE_waitDma2_eq 𝒱₀ (c : Thread nD τ) none Set.univ) (Set.mem_univ _) () (O := owe c l) (W := W) (R := 0) (m := 0) (T := ∅)
      (by rw [Nat.zero_add, expect_dma m ρ c (.inl x)]; exact N_eq d a s)) $$ [Hc HO Hat]
  · isplitr; · iapply (recs_inv m ρ K (c, kSnd x)); iexact HR
    isplitl [Hc]; · rw [N_eq]; iexact Hc
    isplitl [HO]; · iexact HO
    isplitr; · iapply (mayWait_owe c (kSnd x) l (fun y _ => by simp only [lvK]; omega)); iapply (recs_lev m ρ K); iexact HR
    iexact Hat
  iintro ⟨HO, Hat, -, Hp⟩
  ihave Hp := (Entails.of_eq (rest_dma m ρ c (.inl x))) $$ Hp
  imod (Rounds.cell_close ER (ringRd m ρ) (Set.mem_univ (K (c, kSnd x))) (fun h => h) (R := 0 + 1) (duties_later m ρ (kcell (c, kSnd x)))) $$ [Hat] with Hz
  · isplitr; · iapply (recs_inv m ρ K (c, kSnd x)); iexact HR
    iexact Hat
  iapply Hk
  isplitr [HO]
  · isplitl [Hz]; · iexact Hz
    iapply (slotAt_any x.1 (srcIx x.2.1) x.2.2 c (sent m ρ x.1 x.2.1 x.2.2 c)); unfold pay; iexact Hp
  iexists _; iexact HO

/-- A device waits for a slot to arrive. -/
theorem step_arrived (x : Chan) (l : List Chan) (c : Dev nD) (d : Bool) (a : Fin 4) (s : Fin 2) (hl : ∀ y ∈ l, x.2.1 < y.2.1)
    {sp : Space} {sh : Shape} {e : EltTy} {src : Memref sig .tc sp sh e} {p : src.view.WordExact} {q : (slotM d a s).view.WordExact}
    {k : PUnit → Prog (TpuEff nD τ sig (Elt F) Λ₀ .tc) α} :
    recs m ρ K ⊢ iprop(arr₀ x c -∗ owesL c l -∗ ((arr₁ x c ∗ slotAt x.1 x.2.1.castSucc x.2.2 c (sent m ρ x.1 x.2.1 x.2.2 (peer (!x.1) c)) ∗ owesL c l) -∗ run c (k ⟨⟩) Q)
          -∗ run c (.op (.waitDma2 (recvS x) src (slotM d a s) p q) k) Q) := by
  unfold arr₀ arr₁ owesL
  iintro #HR ⟨Hc, Hat⟩ ⟨%W, HO⟩ Hk
  iapply (Rounds.wp_wait_rest_token 𝒱₀ ER (ringRd m ρ) (c : Thread nD τ) none (κ := K (c, kRcv x))
      (wpE_waitDma2_eq 𝒱₀ (c : Thread nD τ) none Set.univ) (Set.mem_univ _) () (O := owe c l) (W := W) (R := 0) (m := 0) (T := ∅)
      (by rw [Nat.zero_add, expect_dma m ρ c (.inr (.inl x))]; exact N_eq d a s)) $$ [Hc HO Hat]
  · isplitr; · iapply (recs_inv m ρ K (c, kRcv x)); iexact HR
    isplitl [Hc]; · rw [N_eq]; iexact Hc
    isplitl [HO]; · iexact HO
    isplitr; · iapply (mayWait_owe c (kRcv x) l (fun y hy => by have := hl y hy; simp only [lvK]; omega)); iapply (recs_lev m ρ K); iexact HR
    iexact Hat
  iintro ⟨HO, Hat, -, Hp⟩
  ihave Hp := (Entails.of_eq (rest_dma m ρ c (.inr (.inl x)))) $$ Hp
  imod (Rounds.cell_close ER (ringRd m ρ) (Set.mem_univ (K (c, kRcv x))) (fun h => h) (R := 0 + 1) (duties_later m ρ (kcell (c, kRcv x)))) $$ [Hat] with Hz
  · isplitr; · iapply (recs_inv m ρ K (c, kRcv x)); iexact HR
    iexact Hat
  iapply Hk
  isplitl [Hz]; · iexact Hz
  isplitl [Hp]; · unfold pay; iexact Hp
  iexists _; iexact HO

/-- A device starts the copy of a result tile to the output. -/
theorem step_out (y : Fin 2 × Bool) (c : Dev nD)
    {hsrc : (resS y.1 y.2).view.WordExact} {hdst : (outS y.1 y.2).view.WordExact}
    {hsem : DmaTarget.Typed (nD := nD) .vmem (.dma (outSem y)) (DmaTarget.here (p := (.tc : Proc τ)) (outS y.1 y.2))}
    {k : PUnit → Prog (TpuEff nD τ sig (Elt F) Λ₀ .tc) α} :
    recs m ρ K ⊢ iprop(out₀ y c -∗ resAt y.1 y.2 c (res m ρ y.1 y.2 c) -∗ (out₁ y c -∗ run c (k ⟨⟩) Q)
          -∗ run c (.op (.enqueueDma (resS y.1 y.2) (.here (outS y.1 y.2)) (.dma (outSem y)) hsrc hdst hsem) k) Q) := by
  unfold out₀ out₁ outAny resAt resPt outPt
  iintro #HR ⟨⟨%fd, Hd⟩, Ht, Hat⟩ ⟨%fs, %hf, Hs⟩ Hk
  iapply (Rounds.wp_copy_pointsTo 𝒱₀ ER (ringRd m ρ) (c : Thread nD τ) none (κ := K (c, kOut y)) (sem := .dma (outSem y)) (r := 0) (d := false) (fs := fs) (fd := fd) (q := fullShare)
    (by rw [duties_at m ρ c (kOut y)]; exact Finset.mem_singleton_self _)
    () NO (NO_eq _ _) (amount_at m ρ c (kOut y) 0 false)
    (by rw [payload_at m ρ c (kOut y)]; unfold pay outAt resAny resPt outPt
        iintro ⟨Hd, Hs⟩
        isplitl [Hd]
        · iexists _; isplitr; swap
          · iexact Hd
          ipureintro; rw [← hf]; exact View.read_write_univ _ _
        iexists fs; iexact Hs)) $$ [Hd Hs Ht]
  · isplitr; · iapply (recs_inv m ρ K (c, kOut y)); iexact HR
    isplitl [Hs]; · iexact Hs
    isplitl [Hd]; · iexact Hd
    isplitl [Ht]; · iexact Ht
    iapply (recs_reached m ρ K (c, kOut y)); iexact HR
  iintro Hc
  iapply Hk
  isplitl [Hc] <;> iassumption

/-- A device waits until a result tile's copy is through. -/
theorem step_written (y : Fin 2 × Bool) (c : Dev nD) (s : Fin 2) (d : Bool) (l : List Chan) (hl : l = [])
    {sp : Space} {sh : Shape} {e : EltTy} {src : Memref sig .tc sp sh e} {p : src.view.WordExact} {q : (outS s d).view.WordExact}
    {k : PUnit → Prog (TpuEff nD τ sig (Elt F) Λ₀ .tc) α} :
    recs m ρ K ⊢ iprop(out₁ y c -∗ owesL c l -∗ ((out₂ m ρ y c ∗ owesL c l) -∗ run c (k ⟨⟩) Q) -∗ run c (.op (.waitDma2 (outSem y) src (outS s d) p q) k) Q) := by
  subst hl
  unfold out₁ out₂ owesL
  iintro #HR ⟨Hc, Hat⟩ ⟨%W, HO⟩ Hk
  iapply (Rounds.wp_wait_rest_token 𝒱₀ ER (ringRd m ρ) (c : Thread nD τ) none (κ := K (c, kOut y))
      (wpE_waitDma2_eq 𝒱₀ (c : Thread nD τ) none Set.univ) (Set.mem_univ _) () (O := owe c []) (W := W) (R := 0) (m := 0) (T := ∅)
      (by rw [Nat.zero_add, expect_dma m ρ c (.inr (.inr y))]; exact NO_eq s d)) $$ [Hc HO Hat]
  · isplitr; · iapply (recs_inv m ρ K (c, kOut y)); iexact HR
    isplitl [Hc]; · rw [NO_eq]; iexact Hc
    isplitl [HO]; · iexact HO
    isplitr; · iapply (mayWait_owe c (kOut y) [] (fun y hy => absurd hy List.not_mem_nil)); iapply (recs_lev m ρ K); iexact HR
    iexact Hat
  iintro ⟨HO, Hat, -, Hp⟩
  ihave Hp := (Entails.of_eq (rest_dma m ρ c (.inr (.inr y)))) $$ Hp
  imod (Rounds.cell_close ER (ringRd m ρ) (Set.mem_univ (K (c, kOut y))) (fun h => h) (R := 0 + 1) (duties_later m ρ (kcell (c, kOut y)))) $$ [Hat] with Hz
  · isplitr; · iapply (recs_inv m ρ K (c, kOut y)); iexact HR
    iexact Hat
  iapply Hk
  isplitr [HO]
  · isplitl [Hz]; · iexact Hz
    unfold pay; iexact Hp
  iexists _; iexact HO

/-! ## Loads and stores -/

/-- The working copies of a device's operands. -/
def xbPt (c : Dev nD) : sProp 𝕄 := (c : Thread nD τ).loc cc0_scratch0 ↦{fullShare} xb m ρ c
/-- The working copy of `w`, held whole. -/
def wbPt (c : Dev nD) : sProp 𝕄 := (c : Thread nD τ).loc cc0_scratch1 ↦{fullShare} wb m ρ c

/-- Loading a block of rows of the first operand's copy. -/
theorem step_loadX (q : Fin 4) (s : Fin 2) (c : Dev nD) {off : Fin 2 → ℕ} (hoff : off = rowOff q s) {hin : ∀ k, off k + S512x1024.size k ≤ S4096x1024.size k}
    {hl : xbM.view.LoadsAt (Rect.unit (s := S4096x1024) off S512x1024.size hin).toLoadRect}
    {k : (S512x1024.Idx → Elt F .bf16) → Prog (TpuEff nD τ sig (Elt F) Λ₀ .tc) α} :
    xbPt m ρ c ⊢ iprop((xbPt m ρ c -∗ run c (k (xrow m ρ c q s)) Q)
      -∗ run c (.op (.load xbM (Rect.unit (s := S4096x1024) off S512x1024.size hin).toLoadRect hl) k) Q) := by
  subst hoff
  exact wp_load 𝒱₀ (c : Thread nD τ) none Set.univ (m := xbM) (Finset.subset_univ _)

/-- Loading a half of the second operand's copy. -/
theorem step_loadW (d : Bool) (c : Dev nD) {hin : ∀ k, colOff d k + S1024x1024.size k ≤ S1024x2048.size k}
    {hl : wbM.view.LoadsAt (Rect.unit (s := S1024x2048) (colOff d) S1024x1024.size hin).toLoadRect}
    {k : (S1024x1024.Idx → Elt F .bf16) → Prog (TpuEff nD τ sig (Elt F) Λ₀ .tc) α} :
    wbPt m ρ c ⊢ iprop((wbPt m ρ c -∗ run c (k (wcol m ρ c d)) Q)
      -∗ run c (.op (.load wbM (Rect.unit (s := S1024x2048) (colOff d) S1024x1024.size hin).toLoadRect hl) k) Q) :=
  wp_load 𝒱₀ (c : Thread nD τ) none Set.univ (m := wbM) (Finset.subset_univ _)

omit [FloatOps F] in
/-- A slot's elements, seen without its unit axes. -/
theorem slot_set (d : Bool) (a : Fin 4) (s : Fin 2) : (slotM d a s).view.set = (slotV d a s).set := View.set_reshape _ _
omit [FloatOps F] in
/-- A result slot's elements, seen without its unit axes. -/
theorem res_set (s : Fin 2) (d : Bool) : (resS s d).view.set = (resV s d).set := View.set_reshape _ _

/-- Loading a slot gives the vector it holds. -/
theorem step_loadSlot (d : Bool) (a : Fin 4) (s : Fin 2) (c : Dev nD) (V : Vec F S1x1x512x1024 .bf16)
    {hl : (M d).view.LoadsAt (slotR a s).toLoadRect}
    {k : (S1x1x512x1024.Idx → Elt F .bf16) → Prog (TpuEff nD τ sig (Elt F) Λ₀ .tc) α} :
    slotAt d a s c V ⊢ iprop((slotAt d a s c V -∗ run c (k V) Q) -∗ run c (.op (.load (M d) (slotR a s).toLoadRect hl) k) Q) := by
  unfold slotAt slotPt
  iintro ⟨%f, %hf, H⟩ Hk
  subst hf
  iapply (wp_load_rect 𝒱₀ (c : Thread nD τ) none Set.univ (m := M d) (r := slotR a s) (S := (slotM d a s).view.set) (by rw [slot_set])) $$ H
  iintro H
  iapply Hk
  iexists f; isplitr; · ipureintro; rfl
  iexact H

/-- Loading a slot whatever it holds. -/
theorem step_loadSlotAny (d : Bool) (a : Fin 4) (s : Fin 2) (c : Dev nD)
    {hl : (M d).view.LoadsAt (slotR a s).toLoadRect}
    {k : (S1x1x512x1024.Idx → Elt F .bf16) → Prog (TpuEff nD τ sig (Elt F) Λ₀ .tc) α} :
    slotAny d a s c ⊢ iprop((∀ V, slotAny d a s c -∗ run c (k V) Q) -∗ run c (.op (.load (M d) (slotR a s).toLoadRect hl) k) Q) := by
  unfold slotAny slotPt
  iintro ⟨%f, H⟩ Hk
  iapply (wp_load_rect 𝒱₀ (c : Thread nD τ) none Set.univ (m := M d) (r := slotR a s) (S := (slotM d a s).view.set) (by rw [slot_set])) $$ H
  iintro H
  iapply Hk $$ %_
  iexists f; iexact H

/-- Storing a whole slot. -/
theorem step_storeSlot (d : Bool) (a : Fin 4) (s : Fin 2) (c : Dev nD) (V : Vec F S1x1x512x1024 .bf16)
    {hx : ((M d).access (slotR a s)).Stores Finset.univ} {hm}
    {k : PUnit → Prog (TpuEff nD τ sig (Elt F) Λ₀ .tc) α} :
    slotAny d a s c ⊢ iprop((slotAt d a s c V -∗ run c (k ⟨⟩) Q) -∗ run c (.op (.store (M d) (slotR a s) V Finset.univ hx hm) k) Q) := by
  unfold slotAny slotAt slotPt
  iintro ⟨%f, H⟩ Hk
  iapply (wp_store 𝒱₀ (c : Thread nD τ) none Set.univ (m := M d) (r := slotR a s) (Mk := Finset.univ) (S := (slotM d a s).view.set) (by rw [slot_set]; exact Finset.Subset.refl _)) $$ H
  iintro H
  iapply Hk
  iexists _; isplitr; swap; · iexact H
  ipureintro; exact View.read_write_univ _ _

/-- Loading a result tile whatever it holds. -/
theorem step_loadRes (s : Fin 2) (d : Bool) (c : Dev nD)
    {hl : resM.view.LoadsAt (resR s d).toLoadRect}
    {k : (S1x1x512x1024.Idx → Elt F .f32) → Prog (TpuEff nD τ sig (Elt F) Λ₀ .tc) α} :
    resAny s d c ⊢ iprop((∀ V, resAny s d c -∗ run c (k V) Q) -∗ run c (.op (.load resM (resR s d).toLoadRect hl) k) Q) := by
  unfold resAny resPt
  iintro ⟨%f, H⟩ Hk
  iapply (wp_load_rect 𝒱₀ (c : Thread nD τ) none Set.univ (m := resM) (r := resR s d) (S := (resS s d).view.set) (by rw [res_set])) $$ H
  iintro H
  iapply Hk $$ %_
  iexists f; iexact H

/-- Storing a whole result tile. -/
theorem step_storeRes (s : Fin 2) (d : Bool) (c : Dev nD) (V : Vec F S1x1x512x1024 .f32)
    {hx : (resM.access (resR s d)).Stores Finset.univ} {hm}
    {k : PUnit → Prog (TpuEff nD τ sig (Elt F) Λ₀ .tc) α} :
    resAny s d c ⊢ iprop((resAt s d c V -∗ run c (k ⟨⟩) Q) -∗ run c (.op (.store resM (resR s d) V Finset.univ hx hm) k) Q) := by
  unfold resAny resAt resPt
  iintro ⟨%f, H⟩ Hk
  iapply (wp_store 𝒱₀ (c : Thread nD τ) none Set.univ (m := resM) (r := resR s d) (Mk := Finset.univ) (S := (resS s d).view.set) (by rw [res_set]; exact Finset.Subset.refl _)) $$ H
  iintro H
  iapply Hk
  iexists _; isplitr; swap; · iexact H
  ipureintro; exact View.read_write_univ _ _

/-! ## The steps at given slots

The same lemmas with a hop's slots, its number and its sender named separately, so that an instance reads as the
program does. -/

/-- Sending a hop, with the neighbour as the program names it. -/
theorem send_at (d : Bool) (h : Fin 3) (s : Fin 2) (a a' : Fin 4) (n : ℕ) (l' l : List Chan) (c p : Dev nD) (hp : p = peer d c)
    (hl : l' = (d, h, s) :: l) (ha : srcIx h = a) (ha' : h.castSucc = a') (hn : h.val = n)
    {hsc : (slotM d a' s).view.ref.isScScratch = false}
    {hsrc : (slotM d a s).view.WordExact} {hdst : (slotM d a' s).view.WordExact}
    {hsem : DmaTarget.Typed .vmem (.dma (recvS (d, h, s))) (.remote (Dev.tc p : Thread nD τ) (slotM d a' s) (.dma (sendS (d, h, s))) hsc)}
    {k : PUnit → Prog (TpuEff nD τ sig (Elt F) Λ₀ .tc) α} :
    recs m ρ K
      ⊢ iprop(hop₀ (d, h, s) c -∗ slotAt d a s c (sent m ρ d n s c) -∗ owesL c l'
          -∗ ((hop₁ (d, h, s) c ∗ owesL c l) -∗ run c (k ⟨⟩) Q)
          -∗ run c (.op (.enqueueDma (slotM d a s)
              (.remote (Dev.tc p : Thread nD τ) (slotM d a' s) (.dma (sendS (d, h, s))) hsc) (.dma (recvS (d, h, s))) hsrc hdst hsem) k) Q) := by
  subst ha ha' hn hl
  exact step_send m ρ K (d, h, s) l c p hp

/-- Awaiting a hop, with the slot as the program names it. -/
theorem arrived_at (d : Bool) (h : Fin 3) (s : Fin 2) (a : Fin 4) (n : ℕ) (d' : Bool) (l : List Chan) (c : Dev nD)
    (ha : h.castSucc = a) (hn : h.val = n) (hd : (!d) = d') (hl : ∀ y ∈ l, h < y.2.1)
    {sp : Space} {sh : Shape} {e : EltTy} {src : Memref sig .tc sp sh e} {p : src.view.WordExact} {q : (slotM d a s).view.WordExact}
    {k : PUnit → Prog (TpuEff nD τ sig (Elt F) Λ₀ .tc) α} :
    recs m ρ K ⊢ iprop(arr₀ (d, h, s) c -∗ owesL c l
          -∗ ((arr₁ (d, h, s) c ∗ slotAt d a s c (sent m ρ d n s (peer d' c)) ∗ owesL c l) -∗ run c (k ⟨⟩) Q)
          -∗ run c (.op (.waitDma2 (recvS (d, h, s)) src (slotM d a s) p q) k) Q) := by
  subst ha hn hd
  exact step_arrived m ρ K (d, h, s) l c d h.castSucc s hl

/-- Storing into a slot a vector known under another name. -/
theorem store_as (d : Bool) (a : Fin 4) (s : Fin 2) (c : Dev nD) {V W : Vec F S1x1x512x1024 .bf16} (hV : V = W)
    {hx : ((M d).access (slotR a s)).Stores Finset.univ} {hm}
    {k : PUnit → Prog (TpuEff nD τ sig (Elt F) Λ₀ .tc) α} :
    slotAny d a s c ⊢ iprop((slotAt d a s c W -∗ run c (k ⟨⟩) Q) -∗ run c (.op (.store (M d) (slotR a s) V Finset.univ hx hm) k) Q) := by
  subst hV; exact step_storeSlot d a s c V

/-- The same for a result tile. -/
theorem storeRes_as (s : Fin 2) (d : Bool) (c : Dev nD) {V W : Vec F S1x1x512x1024 .f32} (hV : V = W)
    {hx : (resM.access (resR s d)).Stores Finset.univ} {hm}
    {k : PUnit → Prog (TpuEff nD τ sig (Elt F) Λ₀ .tc) α} :
    resAny s d c ⊢ iprop((resAt s d c W -∗ run c (k ⟨⟩) Q) -∗ run c (.op (.store resM (resR s d) V Finset.univ hx hm) k) Q) := by
  subst hV; exact step_storeRes s d c V

/-! ## Where the operands' rows lie, and who the neighbours are -/

omit m ρ in
/-- The printed offset of the first rows in the first ring. -/
theorem off1 (c : Dev nD) (r : Fin 2) : k0_off1 c (BitVec.ofNat 32 (512 * r.val)) = rowOff (chunk false 0 c) r := by
  rw [k0_off1_eq]; revert c r; decide +kernel
omit m ρ in
/-- The printed offset of the first rows in the second ring. -/
theorem off2 (c : Dev nD) (r : Fin 2) : k0_off2 c (BitVec.ofNat 32 (512 * r.val)) = rowOff (chunk true 0 c) r := by
  rw [k0_off2_eq]; revert c r; decide +kernel
omit m ρ in
/-- The printed offset of the later rows in the first ring. -/
theorem off3 (c : Dev nD) (h : Fin 3) (r : Fin 2) :
    k0_off3 c (BitVec.ofNat 32 h.val) (BitVec.ofNat 32 (512 * r.val)) = rowOff (chunk false (h.val + 1) c) r := by
  rw [k0_off3_eq]; revert c h r; decide +kernel
omit m ρ in
/-- The printed offset of the later rows in the second ring. -/
theorem off4 (c : Dev nD) (h : Fin 3) (r : Fin 2) :
    k0_off4 c (BitVec.ofNat 32 h.val) (BitVec.ofNat 32 (512 * r.val)) = rowOff (chunk true (h.val + 1) c) r := by
  rw [k0_off4_eq]; revert c h r; decide +kernel

/-! ## The printed payloads in the protocol's terms -/

section Fold

variable (d : Bool) (n : ℕ) (s : Fin 2) (c : Dev nD) {d' : Bool} {n' : ℕ}

/-- A product of a block of rows and a half of the columns is the device's contribution. -/
theorem fold4 : k0_pay4 (xrow m ρ c (chunk d n c) s) (wcol m ρ c d) = part m ρ d n s c := rfl
/-- The printed product is a contribution. -/
theorem fold8 : k0_pay8 (xrow m ρ c (chunk d n c) s) (wcol m ρ c d) = part m ρ d n s c := rfl
/-- The printed product is a contribution. -/
theorem fold9 : k0_pay9 (xrow m ρ c (chunk d n c) s) (wcol m ρ c d) = part m ρ d n s c := rfl
/-- The printed product is a contribution. -/
theorem fold12 : k0_pay12 (xrow m ρ c (chunk d n c) s) (wcol m ρ c d) = part m ρ d n s c := rfl
/-- The printed product is a contribution. -/
theorem fold13 : k0_pay13 (xrow m ρ c (chunk d n c) s) (wcol m ρ c d) = part m ρ d n s c := rfl
/-- The printed product is a contribution. -/
theorem fold17 : k0_pay17 (xrow m ρ c (chunk d n c) s) (wcol m ρ c d) = part m ρ d n s c := rfl
/-- The printed product is a contribution. -/
theorem fold21 : k0_pay21 (xrow m ρ c (chunk d n c) s) (wcol m ρ c d) = part m ρ d n s c := rfl
/-- The printed product is a contribution. -/
theorem fold22 : k0_pay22 (xrow m ρ c (chunk d n c) s) (wcol m ρ c d) = part m ρ d n s c := rfl
/-- The printed product is a contribution. -/
theorem fold25 : k0_pay25 (xrow m ρ c (chunk d n c) s) (wcol m ρ c d) = part m ρ d n s c := rfl
/-- The printed product is a contribution. -/
theorem fold26 : k0_pay26 (xrow m ρ c (chunk d n c) s) (wcol m ρ c d) = part m ρ d n s c := rfl
/-- The printed product is a contribution. -/
theorem fold30 : k0_pay30 (xrow m ρ c (chunk d n c) s) (wcol m ρ c d) = part m ρ d n s c := rfl
/-- The printed product is a contribution. -/
theorem fold31 : k0_pay31 (xrow m ρ c (chunk d n c) s) (wcol m ρ c d) = part m ρ d n s c := rfl
/-- Its first contribution, rounded, is what a device sends first. -/
theorem fold3 : k0_pay3 (xrow m ρ c (chunk d 0 c) s) (wcol m ρ c d) = sent m ρ d 0 s c := rfl
/-- The printed value is what the first hop sends. -/
theorem fold6 : k0_pay6 (xrow m ρ c (chunk d 0 c) s) (wcol m ρ c d) = sent m ρ d 0 s c := rfl
/-- The printed value is what the first hop sends. -/
theorem fold7 : k0_pay7 (xrow m ρ c (chunk d 0 c) s) (wcol m ρ c d) = sent m ρ d 0 s c := rfl
/-- The printed value is what the first hop sends. -/
theorem fold5 : k0_pay5 (part m ρ d 0 s c) = sent m ρ d 0 s c := rfl
/-- Adding its contribution to what arrived gives what it sends next. -/
theorem fold10 (hd : (!d) = d') (hn : n + 1 = n') :
    k0_pay10 (part m ρ d n' s c) (sent m ρ d n s (peer d' c)) = sent m ρ d n' s c := by subst hd hn; rfl
/-- The printed value is what the next hop sends. -/
theorem fold11 (hd : (!d) = d') (hn : n + 1 = n') :
    k0_pay11 (part m ρ d n' s c) (sent m ρ d n s (peer d' c)) = sent m ρ d n' s c := by subst hd hn; rfl
/-- The printed value is what the next hop sends. -/
theorem fold14 (hd : (!d) = d') (hn : n + 1 = n') :
    k0_pay14 (part m ρ d n' s c) (sent m ρ d n s (peer d' c)) = sent m ρ d n' s c := by subst hd hn; rfl
/-- The printed value is what the next hop sends. -/
theorem fold15 (hd : (!d) = d') (hn : n + 1 = n') :
    k0_pay16 (k0_pay15 (part m ρ d n' s c) (sent m ρ d n s (peer d' c))) = sent m ρ d n' s c := by subst hd hn; rfl
/-- The printed value is what the next hop sends. -/
theorem fold18 (hd : (!d) = d') (hn : n + 1 = n') :
    k0_pay19 (k0_pay18 (xrow m ρ c (chunk d n' c) s) (wcol m ρ c d) (sent m ρ d n s (peer d' c))) = sent m ρ d n' s c := by
  subst hd hn; rfl
/-- The printed value is what the next hop sends. -/
theorem fold20 (hd : (!d) = d') (hn : n + 1 = n') :
    k0_pay20 (part m ρ d n' s c) (sent m ρ d n s (peer d' c)) = sent m ρ d n' s c := by subst hd hn; rfl
/-- The printed value is what the next hop sends. -/
theorem fold23 (hd : (!d) = d') (hn : n + 1 = n') :
    k0_pay23 (part m ρ d n' s c) (sent m ρ d n s (peer d' c)) = sent m ρ d n' s c := by subst hd hn; rfl
/-- The printed value is what the next hop sends. -/
theorem fold24 (hd : (!d) = d') (hn : n + 1 = n') :
    k0_pay24 (part m ρ d n' s c) (sent m ρ d n s (peer d' c)) = sent m ρ d n' s c := by subst hd hn; rfl
/-- The last addition and the activation give the result tile. -/
theorem fold27 (hd : (!d) = d') : k0_pay28 (k0_pay27 (part m ρ d 3 s c) (sent m ρ d 2 s (peer d' c))) = res m ρ s d c := by subst hd; rfl
/-- The printed value is the result tile. -/
theorem fold29 (hd : (!d) = d') : k0_pay29 (part m ρ d 3 s c) (sent m ρ d 2 s (peer d' c)) = res m ρ s d c := by subst hd; rfl
/-- The printed value is the result tile. -/
theorem fold32 (hd : (!d) = d') : k0_pay32 (part m ρ d 3 s c) (sent m ρ d 2 s (peer d' c)) = res m ρ s d c := by subst hd; rfl
/-- The printed value is the result tile. -/
theorem fold33 (hd : (!d) = d') : k0_pay33 (part m ρ d 3 s c) (sent m ρ d 2 s (peer d' c)) = res m ρ s d c := by subst hd; rfl

end Fold

end Steps

end Cert.Kern

end
-- ==== Proof.Parts.lean ====
module

public import proofs.«01_k».proof.Proof.Steps

@[expose] public section

noncomputable section

namespace Cert.Kern

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg) (K : Dev nD × CK → ℕ)

/-! # The parts of the kernel's body, one theorem each

Each part of the printed body is a short run of loads, stores, remote copies and waits; its theorem says which of the device's
resources it uses and how it hands them back. -/

/-- Part 2: the first clockwise hop of the upper rows is sent, and the counter-clockwise contribution computed. -/
theorem part2_run (c : Dev nD) (v7 : BitVec 32) (v25 : BitVec 32) (v26 : BitVec 32) {Q : (Σ' (v27 : BitVec 32), FVec F S512x1024 .f32) → sProp (MT nD τ sig Unit (Elt F) ℕ UU ℕ)} :
    recs m ρ K ⊢ iprop(xbPt m ρ c -∗ wbPt m ρ c -∗ slotAny false 3 0 c -∗ hop₀ (false, 0, 0) c -∗ owesL c (todo 0)
      -∗ (∀ v : BitVec 32, (xbPt m ρ c ∗ wbPt m ρ c ∗ hop₁ (false, 0, 0) c ∗ owesL c (todo 1)) -∗ Q ⟨v, part m ρ true 0 0 c⟩)
      -∗ run c (k0_part2 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v7 v25 v26) Q) := by
  rw [k0_part2_eq_skeleton]; unfold k0_part2_skel
  simp only [Prog.lift, Prog.bind_op, Prog.bind_ret, Prog.pure_eq_ret]
  iintro #HR Hx Hw Hsf30 Hhf00 HO Hk
  iapply (step_loadX m ρ (chunk false 0 c) 0 c (off1 c 0)) $$ Hx; iintro Hx
  iapply (step_loadW m ρ false c) $$ Hw; iintro Hw
  iapply (step_loadSlotAny false 3 0 c) $$ Hsf30; iintro %_ Hsf30
  iapply (store_as false 3 0 c (W := sent m ρ false 0 0 c) (fold3 m ρ false 0 c)) $$ Hsf30; iintro Hsf30
  iapply (send_at m ρ K false 0 0 3 0 0 (todo 0) (todo 1) c _ (dev_eq false c (k0_dev3_eq c)) rfl rfl rfl rfl) $$ HR Hhf00 Hsf30 HO; iintro ⟨Hhf00, HO⟩
  iapply (step_loadX m ρ (chunk true 0 c) 0 c (off2 c 0)) $$ Hx; iintro Hx
  iapply (step_loadW m ρ true c) $$ Hw; iintro Hw
  simp only [fold4 m ρ true 0 0 c]
  iapply (run_ret c)
  iapply Hk
  isplitl [Hx]; · iexact Hx
  isplitl [Hw]; · iexact Hw
  isplitl [Hhf00]; · iexact Hhf00
  iexact HO

/-- Part 3: the counter-clockwise hop of the upper rows is sent, and the lower rows’ clockwise contribution stored. -/
theorem part3_run (c : Dev nD) (v5 : BitVec 32) (v25 : BitVec 32) {Q : PUnit → sProp (MT nD τ sig Unit (Elt F) ℕ UU ℕ)} :
    recs m ρ K ⊢ iprop(slotAny true 3 0 c -∗ hop₀ (true, 0, 0) c -∗ xbPt m ρ c -∗ wbPt m ρ c -∗ slotAny false 3 1 c -∗ owesL c (todo 1)
      -∗ ((hop₁ (true, 0, 0) c ∗ xbPt m ρ c ∗ wbPt m ρ c ∗ slotAt false 3 1 c (sent m ρ false 0 1 c) ∗ owesL c (todo 2)) -∗ Q ⟨⟩)
      -∗ run c (k0_part3 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v5 v25 (part m ρ true 0 0 c)) Q) := by
  rw [k0_part3_eq_skeleton]; unfold k0_part3_skel
  simp only [Prog.lift, Prog.bind_op, Prog.bind_ret, Prog.pure_eq_ret]
  iintro #HR Hst30 Hht00 Hx Hw Hsf31 HO Hk
  iapply (step_loadSlotAny true 3 0 c) $$ Hst30; iintro %_ Hst30
  iapply (store_as true 3 0 c (W := sent m ρ true 0 0 c) (fold5 m ρ true 0 c)) $$ Hst30; iintro Hst30
  iapply (send_at m ρ K true 0 0 3 0 0 (todo 1) (todo 2) c _ (dev_eq true c (k0_dev4_eq c)) rfl rfl rfl rfl) $$ HR Hht00 Hst30 HO; iintro ⟨Hht00, HO⟩
  iapply (step_loadX m ρ (chunk false 0 c) 1 c (off1 c 1)) $$ Hx; iintro Hx
  iapply (step_loadW m ρ false c) $$ Hw; iintro Hw
  iapply (step_loadSlotAny false 3 1 c) $$ Hsf31; iintro %_ Hsf31
  iapply (store_as false 3 1 c (W := sent m ρ false 0 1 c) (fold6 m ρ false 1 c)) $$ Hsf31; iintro Hsf31
  iapply (run_ret c)
  iapply Hk
  isplitl [Hht00]; · iexact Hht00
  isplitl [Hx]; · iexact Hx
  isplitl [Hw]; · iexact Hw
  isplitl [Hsf31]; · iexact Hsf31
  iexact HO

/-- Part 4: the clockwise hop of the lower rows is sent, and their counter-clockwise contribution stored. -/
theorem part4_run (c : Dev nD) (v5 : BitVec 32) (v7 : BitVec 32) (v27 : BitVec 32) {Q : PUnit → sProp (MT nD τ sig Unit (Elt F) ℕ UU ℕ)} :
    recs m ρ K ⊢ iprop(slotAt false 3 1 c (sent m ρ false 0 1 c) -∗ hop₀ (false, 0, 1) c -∗ xbPt m ρ c -∗ wbPt m ρ c -∗ slotAny true 3 1 c -∗ owesL c (todo 2)
      -∗ ((hop₁ (false, 0, 1) c ∗ xbPt m ρ c ∗ wbPt m ρ c ∗ slotAt true 3 1 c (sent m ρ true 0 1 c) ∗ owesL c (todo 3)) -∗ Q ⟨⟩)
      -∗ run c (k0_part4 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v5 v7 v27) Q) := by
  rw [k0_part4_eq_skeleton]; unfold k0_part4_skel
  simp only [Prog.lift, Prog.bind_op, Prog.bind_ret, Prog.pure_eq_ret]
  iintro #HR Hsf31 Hhf01 Hx Hw Hst31 HO Hk
  iapply (send_at m ρ K false 0 1 3 0 0 (todo 2) (todo 3) c _ (dev_eq false c (k0_dev5_eq c)) rfl rfl rfl rfl) $$ HR Hhf01 Hsf31 HO; iintro ⟨Hhf01, HO⟩
  iapply (step_loadX m ρ (chunk true 0 c) 1 c (off2 c 1)) $$ Hx; iintro Hx
  iapply (step_loadW m ρ true c) $$ Hw; iintro Hw
  iapply (step_loadSlotAny true 3 1 c) $$ Hst31; iintro %_ Hst31
  iapply (store_as true 3 1 c (W := sent m ρ true 0 1 c) (fold7 m ρ true 1 c)) $$ Hst31; iintro Hst31
  iapply (run_ret c)
  iapply Hk
  isplitl [Hhf01]; · iexact Hhf01
  isplitl [Hx]; · iexact Hx
  isplitl [Hw]; · iexact Hw
  isplitl [Hst31]; · iexact Hst31
  iexact HO

/-- Part 5: the last hop of the first round is sent, and the contributions of the second round computed. -/
theorem part5_run (c : Dev nD) (v2 : BitVec 32) (v7 : BitVec 32) {Q : (Σ' (v111 : BitVec 32) (v114 : BitVec 32) (v120 : FVec F S512x1024 .f32), FVec F S512x1024 .f32) → sProp (MT nD τ sig Unit (Elt F) ℕ UU ℕ)} :
    recs m ρ K ⊢ iprop(slotAt true 3 1 c (sent m ρ true 0 1 c) -∗ hop₀ (true, 0, 1) c -∗ xbPt m ρ c -∗ wbPt m ρ c -∗ owesL c (todo 3)
      -∗ (∀ v : BitVec 32, ∀ v' : BitVec 32, (hop₁ (true, 0, 1) c ∗ xbPt m ρ c ∗ wbPt m ρ c ∗ owesL c (todo 4)) -∗ Q ⟨v, v', part m ρ false 1 0 c, part m ρ true 1 0 c⟩)
      -∗ run c (k0_part5 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v2 v7) Q) := by
  rw [k0_part5_eq_skeleton]; unfold k0_part5_skel
  simp only [Prog.lift, Prog.bind_op, Prog.bind_ret, Prog.pure_eq_ret]
  iintro #HR Hst31 Hht01 Hx Hw HO Hk
  iapply (send_at m ρ K true 0 1 3 0 0 (todo 3) (todo 4) c _ (dev_eq true c (k0_dev6_eq c)) rfl rfl rfl rfl) $$ HR Hht01 Hst31 HO; iintro ⟨Hht01, HO⟩
  iapply (step_loadX m ρ (chunk false 1 c) 0 c (off3 c 0 0)) $$ Hx; iintro Hx
  iapply (step_loadW m ρ false c) $$ Hw; iintro Hw
  iapply (step_loadX m ρ (chunk true 1 c) 0 c (off4 c 0 0)) $$ Hx; iintro Hx
  iapply (step_loadW m ρ true c) $$ Hw; iintro Hw
  simp only [fold8 m ρ false 1 0 c, fold9 m ρ true 1 0 c]
  iapply (run_ret c)
  iapply Hk
  isplitl [Hht01]; · iexact Hht01
  isplitl [Hx]; · iexact Hx
  isplitl [Hw]; · iexact Hw
  iexact HO

/-- Part 6: the upper rows arrive clockwise, get the own contribution added and travel on. -/
theorem part6_run (c : Dev nD) (v7 : BitVec 32) {Q : PUnit → sProp (MT nD τ sig Unit (Elt F) ℕ UU ℕ)} :
    recs m ρ K ⊢ iprop(arr₀ (false, 0, 0) c -∗ hop₀ (false, 1, 0) c -∗ owesL c (todo 4)
      -∗ ((arr₁ (false, 0, 0) c ∗ hop₁ (false, 1, 0) c ∗ owesL c (todo 5)) -∗ Q ⟨⟩)
      -∗ run c (k0_part6 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v7 (part m ρ false 1 0 c)) Q) := by
  rw [k0_part6_eq_skeleton]; unfold k0_part6_skel
  simp only [Prog.lift, Prog.bind_op, Prog.bind_ret, Prog.pure_eq_ret]
  iintro #HR Haf00 Hhf10 HO Hk
  iapply (arrived_at m ρ K false 0 0 0 0 true (todo 4) c rfl rfl rfl (by decide)) $$ HR Haf00 HO; iintro ⟨Haf00, Hsf00, HO⟩
  iapply (step_loadSlot false 0 0 c (sent m ρ false 0 0 (peer true c))) $$ Hsf00; iintro Hsf00
  iapply (step_loadSlot false 0 0 c (sent m ρ false 0 0 (peer true c))) $$ Hsf00; iintro Hsf00
  ihave Hsf00 := (slotAt_any _ _ _ _ _) $$ Hsf00
  iapply (store_as false 0 0 c (W := sent m ρ false 1 0 c) (fold10 m ρ false 0 0 c rfl rfl)) $$ Hsf00; iintro Hsf00
  iapply (send_at m ρ K false 1 0 0 1 1 (todo 4) (todo 5) c _ (dev_eq false c (k0_dev7_eq c)) rfl rfl rfl rfl) $$ HR Hhf10 Hsf00 HO; iintro ⟨Hhf10, HO⟩
  iapply (run_ret c)
  iapply Hk
  isplitl [Haf00]; · iexact Haf00
  isplitl [Hhf10]; · iexact Hhf10
  iexact HO

/-- Part 7: the first clockwise hop has left; the upper rows arrive counter-clockwise and get the own contribution added. -/
theorem part7_run (c : Dev nD) (v5 : BitVec 32) {Q : (Σ' (v175 : BitVec 32), BitVec 32) → sProp (MT nD τ sig Unit (Elt F) ℕ UU ℕ)} :
    recs m ρ K ⊢ iprop(hop₁ (false, 0, 0) c -∗ arr₀ (true, 0, 0) c -∗ owesL c (todo 5)
      -∗ (∀ v : BitVec 32, ∀ v' : BitVec 32, (hop₂ (false, 0, 0) c ∗ arr₁ (true, 0, 0) c ∗ slotAt true 0 0 c (sent m ρ true 1 0 c) ∗ owesL c (todo 5)) -∗ Q ⟨v, v'⟩)
      -∗ run c (k0_part7 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 v5 (part m ρ true 1 0 c)) Q) := by
  rw [k0_part7_eq_skeleton]; unfold k0_part7_skel
  simp only [Prog.lift, Prog.bind_op, Prog.bind_ret, Prog.pure_eq_ret]
  iintro #HR Hhf00 Hat00 HO Hk
  iapply (step_departed m ρ K (false, 0, 0) (todo 5) c false 3 0) $$ HR Hhf00 HO; iintro ⟨Hhf00, HO⟩
  iapply (arrived_at m ρ K true 0 0 0 0 false (todo 5) c rfl rfl rfl (by decide)) $$ HR Hat00 HO; iintro ⟨Hat00, Hst00, HO⟩
  iapply (step_loadSlot true 0 0 c (sent m ρ true 0 0 (peer false c))) $$ Hst00; iintro Hst00
  iapply (step_loadSlot true 0 0 c (sent m ρ true 0 0 (peer false c))) $$ Hst00; iintro Hst00
  ihave Hst00 := (slotAt_any _ _ _ _ _) $$ Hst00
  iapply (store_as true 0 0 c (W := sent m ρ true 1 0 c) (fold11 m ρ true 0 0 c rfl rfl)) $$ Hst00; iintro Hst00
  iapply (run_ret c)
  iapply Hk
  isplitl [Hhf00]; · iexact Hhf00
  isplitl [Hat00]; · iexact Hat00
  isplitl [Hst00]; · iexact Hst00
  iexact HO

/-- Part 8: they travel on, and the lower rows’ contributions are computed. -/
theorem part8_run (c : Dev nD) (v111 : BitVec 32) (v114 : BitVec 32) (v175 : BitVec 32) (w : BitVec 32) {Q : (Σ' (v196 : FVec F S512x1024 .f32), FVec F S512x1024 .f32) → sProp (MT nD τ sig Unit (Elt F) ℕ UU ℕ)} :
    recs m ρ K ⊢ iprop(slotAt true 0 0 c (sent m ρ true 1 0 c) -∗ hop₀ (true, 1, 0) c -∗ hop₁ (true, 0, 0) c -∗ xbPt m ρ c -∗ wbPt m ρ c -∗ owesL c (todo 5)
      -∗ ((hop₁ (true, 1, 0) c ∗ hop₂ (true, 0, 0) c ∗ xbPt m ρ c ∗ wbPt m ρ c ∗ owesL c (todo 6)) -∗ Q ⟨part m ρ false 1 1 c, part m ρ true 1 1 c⟩)
      -∗ run c (k0_part8 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v111 v114 v175 w) Q) := by
  rw [k0_part8_eq_skeleton]; unfold k0_part8_skel
  simp only [Prog.lift, Prog.bind_op, Prog.bind_ret, Prog.pure_eq_ret]
  iintro #HR Hst00 Hht10 Hht00 Hx Hw HO Hk
  iapply (send_at m ρ K true 1 0 0 1 1 (todo 5) (todo 6) c _ (dev_eq true c (k0_dev8_eq c)) rfl rfl rfl rfl) $$ HR Hht10 Hst00 HO; iintro ⟨Hht10, HO⟩
  iapply (step_departed m ρ K (true, 0, 0) (todo 6) c true 3 0) $$ HR Hht00 HO; iintro ⟨Hht00, HO⟩
  iapply (step_loadX m ρ (chunk false 1 c) 1 c (off3 c 0 1)) $$ Hx; iintro Hx
  iapply (step_loadW m ρ false c) $$ Hw; iintro Hw
  iapply (step_loadX m ρ (chunk true 1 c) 1 c (off4 c 0 1)) $$ Hx; iintro Hx
  iapply (step_loadW m ρ true c) $$ Hw; iintro Hw
  simp only [fold12 m ρ false 1 1 c, fold13 m ρ true 1 1 c]
  iapply (run_ret c)
  iapply Hk
  isplitl [Hht10]; · iexact Hht10
  isplitl [Hht00]; · iexact Hht00
  isplitl [Hx]; · iexact Hx
  isplitl [Hw]; · iexact Hw
  iexact HO

/-- Part 9: the lower rows arrive clockwise and get the own contribution added. -/
theorem part9_run (c : Dev nD) (v7 : BitVec 32) {Q : PUnit → sProp (MT nD τ sig Unit (Elt F) ℕ UU ℕ)} :
    recs m ρ K ⊢ iprop(arr₀ (false, 0, 1) c -∗ owesL c (todo 6)
      -∗ ((arr₁ (false, 0, 1) c ∗ slotAt false 0 1 c (sent m ρ false 1 1 c) ∗ owesL c (todo 6)) -∗ Q ⟨⟩)
      -∗ run c (k0_part9 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 v7 (part m ρ false 1 1 c)) Q) := by
  rw [k0_part9_eq_skeleton]; unfold k0_part9_skel
  simp only [Prog.lift, Prog.bind_op, Prog.bind_ret, Prog.pure_eq_ret]
  iintro #HR Haf01 HO Hk
  iapply (arrived_at m ρ K false 0 1 0 0 true (todo 6) c rfl rfl rfl (by decide)) $$ HR Haf01 HO; iintro ⟨Haf01, Hsf01, HO⟩
  iapply (step_loadSlot false 0 1 c (sent m ρ false 0 1 (peer true c))) $$ Hsf01; iintro Hsf01
  iapply (step_loadSlot false 0 1 c (sent m ρ false 0 1 (peer true c))) $$ Hsf01; iintro Hsf01
  ihave Hsf01 := (slotAt_any _ _ _ _ _) $$ Hsf01
  iapply (store_as false 0 1 c (W := sent m ρ false 1 1 c) (fold14 m ρ false 0 1 c rfl rfl)) $$ Hsf01; iintro Hsf01
  iapply (run_ret c)
  iapply Hk
  isplitl [Haf01]; · iexact Haf01
  isplitl [Hsf01]; · iexact Hsf01
  iexact HO

/-- Part 10: they travel on, and the lower rows arrive counter-clockwise. -/
theorem part10_run (c : Dev nD) (v5 : BitVec 32) {Q : (Σ' (v247 : FVec F S512x1024 .bf16), Vec F S1x1x512x1024 .bf16) → sProp (MT nD τ sig Unit (Elt F) ℕ UU ℕ)} :
    recs m ρ K ⊢ iprop(slotAt false 0 1 c (sent m ρ false 1 1 c) -∗ hop₀ (false, 1, 1) c -∗ hop₁ (false, 0, 1) c -∗ arr₀ (true, 0, 1) c -∗ owesL c (todo 6)
      -∗ ((hop₁ (false, 1, 1) c ∗ hop₂ (false, 0, 1) c ∗ arr₁ (true, 0, 1) c ∗ slotAt true 0 1 c (sent m ρ true 0 1 (peer false c)) ∗ owesL c (todo 7)) -∗ Q ⟨k0_pay15 (part m ρ true 1 1 c) (sent m ρ true 0 1 (peer false c)), sent m ρ true 0 1 (peer false c)⟩)
      -∗ run c (k0_part10 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v5 (part m ρ true 1 1 c)) Q) := by
  rw [k0_part10_eq_skeleton]; unfold k0_part10_skel
  simp only [Prog.lift, Prog.bind_op, Prog.bind_ret, Prog.pure_eq_ret]
  iintro #HR Hsf01 Hhf11 Hhf01 Hat01 HO Hk
  iapply (send_at m ρ K false 1 1 0 1 1 (todo 6) (todo 7) c _ (dev_eq false c (k0_dev9_eq c)) rfl rfl rfl rfl) $$ HR Hhf11 Hsf01 HO; iintro ⟨Hhf11, HO⟩
  iapply (step_departed m ρ K (false, 0, 1) (todo 7) c false 3 1) $$ HR Hhf01 HO; iintro ⟨Hhf01, HO⟩
  iapply (arrived_at m ρ K true 0 1 0 0 false (todo 7) c rfl rfl rfl (by decide)) $$ HR Hat01 HO; iintro ⟨Hat01, Hst01, HO⟩
  iapply (step_loadSlot true 0 1 c (sent m ρ true 0 1 (peer false c))) $$ Hst01; iintro Hst01
  iapply (step_loadSlot true 0 1 c (sent m ρ true 0 1 (peer false c))) $$ Hst01; iintro Hst01
  iapply (run_ret c)
  iapply Hk
  isplitl [Hhf11]; · iexact Hhf11
  isplitl [Hhf01]; · iexact Hhf01
  isplitl [Hat01]; · iexact Hat01
  isplitl [Hst01]; · iexact Hst01
  iexact HO

/-- Part 11: those travel on as well. -/
theorem part11_run (c : Dev nD) (v2 : BitVec 32) (v5 : BitVec 32) {Q : (Σ' (v270 : BitVec 32), BitVec 32) → sProp (MT nD τ sig Unit (Elt F) ℕ UU ℕ)} :
    recs m ρ K ⊢ iprop(slotAt true 0 1 c (sent m ρ true 0 1 (peer false c)) -∗ hop₀ (true, 1, 1) c -∗ hop₁ (true, 0, 1) c -∗ owesL c (todo 7)
      -∗ (∀ v : BitVec 32, ∀ v' : BitVec 32, (hop₁ (true, 1, 1) c ∗ hop₂ (true, 0, 1) c ∗ owesL c (todo 8)) -∗ Q ⟨v, v'⟩)
      -∗ run c (k0_part11 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v2 v5 (k0_pay15 (part m ρ true 1 1 c) (sent m ρ true 0 1 (peer false c))) (sent m ρ true 0 1 (peer false c))) Q) := by
  rw [k0_part11_eq_skeleton]; unfold k0_part11_skel
  simp only [Prog.lift, Prog.bind_op, Prog.bind_ret, Prog.pure_eq_ret]
  iintro #HR Hst01 Hht11 Hht01 HO Hk
  ihave Hst01 := (slotAt_any _ _ _ _ _) $$ Hst01
  iapply (store_as true 0 1 c (W := sent m ρ true 1 1 c) (fold15 m ρ true 0 1 c rfl rfl)) $$ Hst01; iintro Hst01
  iapply (send_at m ρ K true 1 1 0 1 1 (todo 7) (todo 8) c _ (dev_eq true c (k0_dev10_eq c)) rfl rfl rfl rfl) $$ HR Hht11 Hst01 HO; iintro ⟨Hht11, HO⟩
  iapply (step_departed m ρ K (true, 0, 1) (todo 8) c true 3 1) $$ HR Hht01 HO; iintro ⟨Hht01, HO⟩
  iapply (run_ret c)
  iapply Hk
  isplitl [Hht11]; · iexact Hht11
  isplitl [Hht01]; · iexact Hht01
  iexact HO

/-- Part 12: the contributions of the third round are computed, and the upper rows arrive clockwise again. -/
theorem part12_run (c : Dev nD) (v7 : BitVec 32) (v270 : BitVec 32) (v272 : BitVec 32) {Q : (Σ' (v273 : BitVec 32) (v285 : FVec F S512x1024 .f32), FVec F S512x1024 .bf16) → sProp (MT nD τ sig Unit (Elt F) ℕ UU ℕ)} :
    recs m ρ K ⊢ iprop(xbPt m ρ c -∗ wbPt m ρ c -∗ arr₀ (false, 1, 0) c -∗ owesL c (todo 8)
      -∗ (∀ v : BitVec 32, (xbPt m ρ c ∗ wbPt m ρ c ∗ arr₁ (false, 1, 0) c ∗ slotAt false 1 0 c (sent m ρ false 1 0 (peer true c)) ∗ owesL c (todo 8)) -∗ Q ⟨v, part m ρ true 2 0 c, k0_pay18 (xrow m ρ c (chunk false 2 c) 0) (wcol m ρ c false) (sent m ρ false 1 0 (peer true c))⟩)
      -∗ run c (k0_part12 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v7 v270 v272) Q) := by
  rw [k0_part12_eq_skeleton]; unfold k0_part12_skel
  simp only [Prog.lift, Prog.bind_op, Prog.bind_ret, Prog.pure_eq_ret]
  iintro #HR Hx Hw Haf10 HO Hk
  iapply (step_loadX m ρ (chunk false 2 c) 0 c (off3 c 1 0)) $$ Hx; iintro Hx
  iapply (step_loadW m ρ false c) $$ Hw; iintro Hw
  iapply (step_loadX m ρ (chunk true 2 c) 0 c (off4 c 1 0)) $$ Hx; iintro Hx
  iapply (step_loadW m ρ true c) $$ Hw; iintro Hw
  iapply (arrived_at m ρ K false 1 0 1 1 true (todo 8) c rfl rfl rfl (by decide)) $$ HR Haf10 HO; iintro ⟨Haf10, Hsf10, HO⟩
  iapply (step_loadSlot false 1 0 c (sent m ρ false 1 0 (peer true c))) $$ Hsf10; iintro Hsf10
  simp only [fold17 m ρ true 2 0 c]
  iapply (run_ret c)
  iapply Hk
  isplitl [Hx]; · iexact Hx
  isplitl [Hw]; · iexact Hw
  isplitl [Haf10]; · iexact Haf10
  isplitl [Hsf10]; · iexact Hsf10
  iexact HO

/-- Part 13: they travel on for the last time. -/
theorem part13_run (c : Dev nD) (v7 : BitVec 32) {Q : BitVec 32 → sProp (MT nD τ sig Unit (Elt F) ℕ UU ℕ)} :
    recs m ρ K ⊢ iprop(slotAt false 1 0 c (sent m ρ false 1 0 (peer true c)) -∗ hop₀ (false, 2, 0) c -∗ hop₁ (false, 1, 0) c -∗ owesL c (todo 8)
      -∗ (∀ v : BitVec 32, (hop₁ (false, 2, 0) c ∗ hop₂ (false, 1, 0) c ∗ owesL c (todo 9)) -∗ Q v)
      -∗ run c (k0_part13 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v7 (k0_pay18 (xrow m ρ c (chunk false 2 c) 0) (wcol m ρ c false) (sent m ρ false 1 0 (peer true c)))) Q) := by
  rw [k0_part13_eq_skeleton]; unfold k0_part13_skel
  simp only [Prog.lift, Prog.bind_op, Prog.bind_ret, Prog.pure_eq_ret]
  iintro #HR Hsf10 Hhf20 Hhf10 HO Hk
  iapply (step_loadSlot false 1 0 c (sent m ρ false 1 0 (peer true c))) $$ Hsf10; iintro Hsf10
  ihave Hsf10 := (slotAt_any _ _ _ _ _) $$ Hsf10
  iapply (store_as false 1 0 c (W := sent m ρ false 2 0 c) (fold18 m ρ false 1 0 c rfl rfl)) $$ Hsf10; iintro Hsf10
  iapply (send_at m ρ K false 2 0 1 2 2 (todo 8) (todo 9) c _ (dev_eq false c (k0_dev11_eq c)) rfl rfl rfl rfl) $$ HR Hhf20 Hsf10 HO; iintro ⟨Hhf20, HO⟩
  iapply (step_departed m ρ K (false, 1, 0) (todo 9) c false 0 0) $$ HR Hhf10 HO; iintro ⟨Hhf10, HO⟩
  iapply (run_ret c)
  iapply Hk
  isplitl [Hhf20]; · iexact Hhf20
  isplitl [Hhf10]; · iexact Hhf10
  iexact HO

/-- Part 14: the upper rows arrive counter-clockwise and travel on for the last time. -/
theorem part14_run (c : Dev nD) (v5 : BitVec 32) (w : BitVec 32) {Q : PUnit → sProp (MT nD τ sig Unit (Elt F) ℕ UU ℕ)} :
    recs m ρ K ⊢ iprop(arr₀ (true, 1, 0) c -∗ hop₀ (true, 2, 0) c -∗ owesL c (todo 9)
      -∗ ((arr₁ (true, 1, 0) c ∗ hop₁ (true, 2, 0) c ∗ owesL c (todo 10)) -∗ Q ⟨⟩)
      -∗ run c (k0_part14 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v5 (part m ρ true 2 0 c) w) Q) := by
  rw [k0_part14_eq_skeleton]; unfold k0_part14_skel
  simp only [Prog.lift, Prog.bind_op, Prog.bind_ret, Prog.pure_eq_ret]
  iintro #HR Hat10 Hht20 HO Hk
  iapply (arrived_at m ρ K true 1 0 1 1 false (todo 9) c rfl rfl rfl (by decide)) $$ HR Hat10 HO; iintro ⟨Hat10, Hst10, HO⟩
  iapply (step_loadSlot true 1 0 c (sent m ρ true 1 0 (peer false c))) $$ Hst10; iintro Hst10
  iapply (step_loadSlot true 1 0 c (sent m ρ true 1 0 (peer false c))) $$ Hst10; iintro Hst10
  ihave Hst10 := (slotAt_any _ _ _ _ _) $$ Hst10
  iapply (store_as true 1 0 c (W := sent m ρ true 2 0 c) (fold20 m ρ true 1 0 c rfl rfl)) $$ Hst10; iintro Hst10
  iapply (send_at m ρ K true 2 0 1 2 2 (todo 9) (todo 10) c _ (dev_eq true c (k0_dev12_eq c)) rfl rfl rfl rfl) $$ HR Hht20 Hst10 HO; iintro ⟨Hht20, HO⟩
  iapply (run_ret c)
  iapply Hk
  isplitl [Hat10]; · iexact Hat10
  isplitl [Hht20]; · iexact Hht20
  iexact HO

/-- Part 15: the lower rows’ contributions of the third round are computed. -/
theorem part15_run (c : Dev nD) (v7 : BitVec 32) (v270 : BitVec 32) (v273 : BitVec 32) {Q : (Σ' (v355 : FVec F S512x1024 .f32), FVec F S512x1024 .f32) → sProp (MT nD τ sig Unit (Elt F) ℕ UU ℕ)} :
    recs m ρ K ⊢ iprop(hop₁ (true, 1, 0) c -∗ xbPt m ρ c -∗ wbPt m ρ c -∗ owesL c (todo 10)
      -∗ ((hop₂ (true, 1, 0) c ∗ xbPt m ρ c ∗ wbPt m ρ c ∗ owesL c (todo 10)) -∗ Q ⟨part m ρ false 2 1 c, part m ρ true 2 1 c⟩)
      -∗ run c (k0_part15 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v7 v270 v273) Q) := by
  rw [k0_part15_eq_skeleton]; unfold k0_part15_skel
  simp only [Prog.lift, Prog.bind_op, Prog.bind_ret, Prog.pure_eq_ret]
  iintro #HR Hht10 Hx Hw HO Hk
  iapply (step_departed m ρ K (true, 1, 0) (todo 10) c true 0 0) $$ HR Hht10 HO; iintro ⟨Hht10, HO⟩
  iapply (step_loadX m ρ (chunk false 2 c) 1 c (off3 c 1 1)) $$ Hx; iintro Hx
  iapply (step_loadW m ρ false c) $$ Hw; iintro Hw
  iapply (step_loadX m ρ (chunk true 2 c) 1 c (off4 c 1 1)) $$ Hx; iintro Hx
  iapply (step_loadW m ρ true c) $$ Hw; iintro Hw
  simp only [fold21 m ρ false 2 1 c, fold22 m ρ true 2 1 c]
  iapply (run_ret c)
  iapply Hk
  isplitl [Hht10]; · iexact Hht10
  isplitl [Hx]; · iexact Hx
  isplitl [Hw]; · iexact Hw
  iexact HO

/-- Part 16: the lower rows arrive clockwise and travel on for the last time. -/
theorem part16_run (c : Dev nD) (v7 : BitVec 32) {Q : PUnit → sProp (MT nD τ sig Unit (Elt F) ℕ UU ℕ)} :
    recs m ρ K ⊢ iprop(arr₀ (false, 1, 1) c -∗ hop₀ (false, 2, 1) c -∗ owesL c (todo 10)
      -∗ ((arr₁ (false, 1, 1) c ∗ hop₁ (false, 2, 1) c ∗ owesL c (todo 11)) -∗ Q ⟨⟩)
      -∗ run c (k0_part16 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v7 (part m ρ false 2 1 c)) Q) := by
  rw [k0_part16_eq_skeleton]; unfold k0_part16_skel
  simp only [Prog.lift, Prog.bind_op, Prog.bind_ret, Prog.pure_eq_ret]
  iintro #HR Haf11 Hhf21 HO Hk
  iapply (arrived_at m ρ K false 1 1 1 1 true (todo 10) c rfl rfl rfl (by decide)) $$ HR Haf11 HO; iintro ⟨Haf11, Hsf11, HO⟩
  iapply (step_loadSlot false 1 1 c (sent m ρ false 1 1 (peer true c))) $$ Hsf11; iintro Hsf11
  iapply (step_loadSlot false 1 1 c (sent m ρ false 1 1 (peer true c))) $$ Hsf11; iintro Hsf11
  ihave Hsf11 := (slotAt_any _ _ _ _ _) $$ Hsf11
  iapply (store_as false 1 1 c (W := sent m ρ false 2 1 c) (fold23 m ρ false 1 1 c rfl rfl)) $$ Hsf11; iintro Hsf11
  iapply (send_at m ρ K false 2 1 1 2 2 (todo 10) (todo 11) c _ (dev_eq false c (k0_dev13_eq c)) rfl rfl rfl rfl) $$ HR Hhf21 Hsf11 HO; iintro ⟨Hhf21, HO⟩
  iapply (run_ret c)
  iapply Hk
  isplitl [Haf11]; · iexact Haf11
  isplitl [Hhf21]; · iexact Hhf21
  iexact HO

/-- Part 17: the lower rows arrive counter-clockwise and get the own contribution added. -/
theorem part17_run (c : Dev nD) (v5 : BitVec 32) {Q : PUnit → sProp (MT nD τ sig Unit (Elt F) ℕ UU ℕ)} :
    recs m ρ K ⊢ iprop(hop₁ (false, 1, 1) c -∗ arr₀ (true, 1, 1) c -∗ owesL c (todo 11)
      -∗ ((hop₂ (false, 1, 1) c ∗ arr₁ (true, 1, 1) c ∗ slotAt true 1 1 c (sent m ρ true 2 1 c) ∗ owesL c (todo 11)) -∗ Q ⟨⟩)
      -∗ run c (k0_part17 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 v5 (part m ρ true 2 1 c)) Q) := by
  rw [k0_part17_eq_skeleton]; unfold k0_part17_skel
  simp only [Prog.lift, Prog.bind_op, Prog.bind_ret, Prog.pure_eq_ret]
  iintro #HR Hhf11 Hat11 HO Hk
  iapply (step_departed m ρ K (false, 1, 1) (todo 11) c false 0 1) $$ HR Hhf11 HO; iintro ⟨Hhf11, HO⟩
  iapply (arrived_at m ρ K true 1 1 1 1 false (todo 11) c rfl rfl rfl (by decide)) $$ HR Hat11 HO; iintro ⟨Hat11, Hst11, HO⟩
  iapply (step_loadSlot true 1 1 c (sent m ρ true 1 1 (peer false c))) $$ Hst11; iintro Hst11
  iapply (step_loadSlot true 1 1 c (sent m ρ true 1 1 (peer false c))) $$ Hst11; iintro Hst11
  ihave Hst11 := (slotAt_any _ _ _ _ _) $$ Hst11
  iapply (store_as true 1 1 c (W := sent m ρ true 2 1 c) (fold24 m ρ true 1 1 c rfl rfl)) $$ Hst11; iintro Hst11
  iapply (run_ret c)
  iapply Hk
  isplitl [Hhf11]; · iexact Hhf11
  isplitl [Hat11]; · iexact Hat11
  isplitl [Hst11]; · iexact Hst11
  iexact HO

/-- Part 18: the last hop is sent, and the device turns to its own rows. -/
theorem part18_run (c : Dev nD) (v2 : BitVec 32) {Q : (Σ' (v429 : BitVec 32) (v432 : BitVec 32) (v438 : FVec F S512x1024 .f32), BitVec 32) → sProp (MT nD τ sig Unit (Elt F) ℕ UU ℕ)} :
    recs m ρ K ⊢ iprop(slotAt true 1 1 c (sent m ρ true 2 1 c) -∗ hop₀ (true, 2, 1) c -∗ hop₁ (true, 1, 1) c -∗ xbPt m ρ c -∗ wbPt m ρ c -∗ owesL c (todo 11)
      -∗ (∀ v : BitVec 32, ∀ v' : BitVec 32, ∀ w : BitVec 32, (hop₁ (true, 2, 1) c ∗ hop₂ (true, 1, 1) c ∗ xbPt m ρ c ∗ wbPt m ρ c ∗ owesL c (todo 12)) -∗ Q ⟨v, v', part m ρ false 3 0 c, w⟩)
      -∗ run c (k0_part18 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v2) Q) := by
  rw [k0_part18_eq_skeleton]; unfold k0_part18_skel
  simp only [Prog.lift, Prog.bind_op, Prog.bind_ret, Prog.pure_eq_ret]
  iintro #HR Hst11 Hht21 Hht11 Hx Hw HO Hk
  iapply (send_at m ρ K true 2 1 1 2 2 (todo 11) (todo 12) c _ (dev_eq true c (k0_dev14_eq c)) rfl rfl rfl rfl) $$ HR Hht21 Hst11 HO; iintro ⟨Hht21, HO⟩
  iapply (step_departed m ρ K (true, 1, 1) (todo 12) c true 0 1) $$ HR Hht11 HO; iintro ⟨Hht11, HO⟩
  iapply (step_loadX m ρ (chunk false 3 c) 0 c (off3 c 2 0)) $$ Hx; iintro Hx
  iapply (step_loadW m ρ false c) $$ Hw; iintro Hw
  simp only [fold25 m ρ false 3 0 c]
  iapply (run_ret c)
  iapply Hk
  isplitl [Hht21]; · iexact Hht21
  isplitl [Hht11]; · iexact Hht11
  isplitl [Hx]; · iexact Hx
  isplitl [Hw]; · iexact Hw
  iexact HO

/-- Part 19: the upper rows arrive clockwise at their destination. -/
theorem part19_run (c : Dev nD) (v7 : BitVec 32) (v440 : BitVec 32) {Q : (Σ' (v444 : FVec F S512x1024 .f32), FVec F S512x1024 .f32) → sProp (MT nD τ sig Unit (Elt F) ℕ UU ℕ)} :
    recs m ρ K ⊢ iprop(xbPt m ρ c -∗ wbPt m ρ c -∗ arr₀ (false, 2, 0) c -∗ owesL c (todo 12)
      -∗ ((xbPt m ρ c ∗ wbPt m ρ c ∗ arr₁ (false, 2, 0) c ∗ slotAt false 2 0 c (sent m ρ false 2 0 (peer true c)) ∗ owesL c (todo 12)) -∗ Q ⟨part m ρ true 3 0 c, k0_pay27 (part m ρ false 3 0 c) (sent m ρ false 2 0 (peer true c))⟩)
      -∗ run c (k0_part19 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v7 (part m ρ false 3 0 c) v440) Q) := by
  rw [k0_part19_eq_skeleton]; unfold k0_part19_skel
  simp only [Prog.lift, Prog.bind_op, Prog.bind_ret, Prog.pure_eq_ret]
  iintro #HR Hx Hw Haf20 HO Hk
  iapply (step_loadX m ρ (chunk true 3 c) 0 c (off4 c 2 0)) $$ Hx; iintro Hx
  iapply (step_loadW m ρ true c) $$ Hw; iintro Hw
  iapply (arrived_at m ρ K false 2 0 2 2 true (todo 12) c rfl rfl rfl (by decide)) $$ HR Haf20 HO; iintro ⟨Haf20, Hsf20, HO⟩
  iapply (step_loadSlot false 2 0 c (sent m ρ false 2 0 (peer true c))) $$ Hsf20; iintro Hsf20
  simp only [fold26 m ρ true 3 0 c]
  iapply (run_ret c)
  iapply Hk
  isplitl [Hx]; · iexact Hx
  isplitl [Hw]; · iexact Hw
  isplitl [Haf20]; · iexact Haf20
  isplitl [Hsf20]; · iexact Hsf20
  iexact HO

/-- Part 20: their result tile is stored and its copy to the output started. -/
theorem part20_run (c : Dev nD) (v5 : BitVec 32) {Q : PUnit → sProp (MT nD τ sig Unit (Elt F) ℕ UU ℕ)} :
    recs m ρ K ⊢ iprop(resAny 0 false c -∗ out₀ (0, false) c -∗ hop₁ (false, 2, 0) c -∗ owesL c (todo 12)
      -∗ ((out₁ (0, false) c ∗ hop₂ (false, 2, 0) c ∗ owesL c (todo 12)) -∗ Q ⟨⟩)
      -∗ run c (k0_part20 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 v5 (k0_pay27 (part m ρ false 3 0 c) (sent m ρ false 2 0 (peer true c)))) Q) := by
  rw [k0_part20_eq_skeleton]; unfold k0_part20_skel
  simp only [Prog.lift, Prog.bind_op, Prog.bind_ret, Prog.pure_eq_ret]
  iintro #HR Hrf0 Hof0 Hhf20 HO Hk
  iapply (step_loadRes 0 false c) $$ Hrf0; iintro %_ Hrf0
  iapply (storeRes_as 0 false c (W := res m ρ 0 false c) (fold27 m ρ false 0 c rfl)) $$ Hrf0; iintro Hrf0
  iapply (step_out m ρ K (0, false) c) $$ HR Hof0 Hrf0; iintro Hof0
  iapply (step_departed m ρ K (false, 2, 0) (todo 12) c false 1 0) $$ HR Hhf20 HO; iintro ⟨Hhf20, HO⟩
  iapply (run_ret c)
  iapply Hk
  isplitl [Hof0]; · iexact Hof0
  isplitl [Hhf20]; · iexact Hhf20
  iexact HO

/-- Part 21: the same for the upper rows that came counter-clockwise. -/
theorem part21_run (c : Dev nD) {Q : PUnit → sProp (MT nD τ sig Unit (Elt F) ℕ UU ℕ)} :
    recs m ρ K ⊢ iprop(arr₀ (true, 2, 0) c -∗ resAny 0 true c -∗ out₀ (0, true) c -∗ owesL c (todo 12)
      -∗ ((arr₁ (true, 2, 0) c ∗ slotAt true 2 0 c (sent m ρ true 2 0 (peer false c)) ∗ out₁ (0, true) c ∗ owesL c (todo 12)) -∗ Q ⟨⟩)
      -∗ run c (k0_part21 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 (part m ρ true 3 0 c)) Q) := by
  rw [k0_part21_eq_skeleton]; unfold k0_part21_skel
  simp only [Prog.lift, Prog.bind_op, Prog.bind_ret, Prog.pure_eq_ret]
  iintro #HR Hat20 Hrt0 Hot0 HO Hk
  iapply (arrived_at m ρ K true 2 0 2 2 false (todo 12) c rfl rfl rfl (by decide)) $$ HR Hat20 HO; iintro ⟨Hat20, Hst20, HO⟩
  iapply (step_loadSlot true 2 0 c (sent m ρ true 2 0 (peer false c))) $$ Hst20; iintro Hst20
  iapply (step_loadRes 0 true c) $$ Hrt0; iintro %_ Hrt0
  iapply (storeRes_as 0 true c (W := res m ρ 0 true c) (fold29 m ρ true 0 c rfl)) $$ Hrt0; iintro Hrt0
  iapply (step_out m ρ K (0, true) c) $$ HR Hot0 Hrt0; iintro Hot0
  iapply (run_ret c)
  iapply Hk
  isplitl [Hat20]; · iexact Hat20
  isplitl [Hst20]; · iexact Hst20
  isplitl [Hot0]; · iexact Hot0
  iexact HO

/-- Part 22: the contributions to the lower rows are computed, which arrive clockwise. -/
theorem part22_run (c : Dev nD) (v7 : BitVec 32) (v429 : BitVec 32) (v432 : BitVec 32) {Q : (Σ' (v528 : FVec F S512x1024 .f32) (v534 : FVec F S512x1024 .f32), Vec F S1x1x512x1024 .bf16) → sProp (MT nD τ sig Unit (Elt F) ℕ UU ℕ)} :
    recs m ρ K ⊢ iprop(hop₁ (true, 2, 0) c -∗ xbPt m ρ c -∗ wbPt m ρ c -∗ arr₀ (false, 2, 1) c -∗ owesL c (todo 12)
      -∗ ((hop₂ (true, 2, 0) c ∗ xbPt m ρ c ∗ wbPt m ρ c ∗ arr₁ (false, 2, 1) c ∗ slotAt false 2 1 c (sent m ρ false 2 1 (peer true c)) ∗ owesL c (todo 12)) -∗ Q ⟨part m ρ false 3 1 c, part m ρ true 3 1 c, sent m ρ false 2 1 (peer true c)⟩)
      -∗ run c (k0_part22 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 c v7 v429 v432) Q) := by
  rw [k0_part22_eq_skeleton]; unfold k0_part22_skel
  simp only [Prog.lift, Prog.bind_op, Prog.bind_ret, Prog.pure_eq_ret]
  iintro #HR Hht20 Hx Hw Haf21 HO Hk
  iapply (step_departed m ρ K (true, 2, 0) (todo 12) c true 1 0) $$ HR Hht20 HO; iintro ⟨Hht20, HO⟩
  iapply (step_loadX m ρ (chunk false 3 c) 1 c (off3 c 2 1)) $$ Hx; iintro Hx
  iapply (step_loadW m ρ false c) $$ Hw; iintro Hw
  iapply (step_loadX m ρ (chunk true 3 c) 1 c (off4 c 2 1)) $$ Hx; iintro Hx
  iapply (step_loadW m ρ true c) $$ Hw; iintro Hw
  iapply (arrived_at m ρ K false 2 1 2 2 true (todo 12) c rfl rfl rfl (by decide)) $$ HR Haf21 HO; iintro ⟨Haf21, Hsf21, HO⟩
  iapply (step_loadSlot false 2 1 c (sent m ρ false 2 1 (peer true c))) $$ Hsf21; iintro Hsf21
  simp only [fold30 m ρ false 3 1 c, fold31 m ρ true 3 1 c]
  iapply (run_ret c)
  iapply Hk
  isplitl [Hht20]; · iexact Hht20
  isplitl [Hx]; · iexact Hx
  isplitl [Hw]; · iexact Hw
  isplitl [Haf21]; · iexact Haf21
  isplitl [Hsf21]; · iexact Hsf21
  iexact HO

/-- Part 23: their result tile is stored and its copy started. -/
theorem part23_run (c : Dev nD) {Q : PUnit → sProp (MT nD τ sig Unit (Elt F) ℕ UU ℕ)} :
    recs m ρ K ⊢ iprop(resAny 1 false c -∗ out₀ (1, false) c
      -∗ ((out₁ (1, false) c) -∗ Q ⟨⟩)
      -∗ run c (k0_part23 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 (part m ρ false 3 1 c) (sent m ρ false 2 1 (peer true c))) Q) := by
  rw [k0_part23_eq_skeleton]; unfold k0_part23_skel
  simp only [Prog.lift, Prog.bind_op, Prog.bind_ret, Prog.pure_eq_ret]
  iintro #HR Hrf1 Hof1 Hk
  iapply (step_loadRes 1 false c) $$ Hrf1; iintro %_ Hrf1
  iapply (storeRes_as 1 false c (W := res m ρ 1 false c) (fold32 m ρ false 1 c rfl)) $$ Hrf1; iintro Hrf1
  iapply (step_out m ρ K (1, false) c) $$ HR Hof1 Hrf1; iintro Hof1
  iapply (run_ret c)
  iapply Hk
  iexact Hof1

/-- Part 24: the last arrival, and its result tile. -/
theorem part24_run (c : Dev nD) (v5 : BitVec 32) {Q : PUnit → sProp (MT nD τ sig Unit (Elt F) ℕ UU ℕ)} :
    recs m ρ K ⊢ iprop(hop₁ (false, 2, 1) c -∗ arr₀ (true, 2, 1) c -∗ resAny 1 true c -∗ owesL c (todo 12)
      -∗ ((hop₂ (false, 2, 1) c ∗ arr₁ (true, 2, 1) c ∗ slotAt true 2 1 c (sent m ρ true 2 1 (peer false c)) ∗ resAt 1 true c (res m ρ 1 true c)
        ∗ owesL c (todo 12)) -∗ Q ⟨⟩)
      -∗ run c (k0_part24 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 v5 (part m ρ true 3 1 c)) Q) := by
  rw [k0_part24_eq_skeleton]; unfold k0_part24_skel
  simp only [Prog.lift, Prog.bind_op, Prog.bind_ret, Prog.pure_eq_ret]
  iintro #HR Hhf21 Hat21 Hrt1 HO Hk
  iapply (step_departed m ρ K (false, 2, 1) (todo 12) c false 1 1) $$ HR Hhf21 HO; iintro ⟨Hhf21, HO⟩
  iapply (arrived_at m ρ K true 2 1 2 2 false (todo 12) c rfl rfl rfl (by decide)) $$ HR Hat21 HO; iintro ⟨Hat21, Hst21, HO⟩
  iapply (step_loadSlot true 2 1 c (sent m ρ true 2 1 (peer false c))) $$ Hst21; iintro Hst21
  iapply (step_loadRes 1 true c) $$ Hrt1; iintro %_ Hrt1
  iapply (storeRes_as 1 true c (W := res m ρ 1 true c) (fold33 m ρ true 1 c rfl)) $$ Hrt1; iintro Hrt1
  iapply (run_ret c)
  iapply Hk
  isplitl [Hhf21]; · iexact Hhf21
  isplitl [Hat21]; · iexact Hat21
  isplitl [Hst21]; · iexact Hst21
  isplitl [Hrt1]; · iexact Hrt1
  iexact HO

/-- Part 25: the last copy is started; the first two are waited for. -/
theorem part25_run (c : Dev nD) {Q : PUnit → sProp (MT nD τ sig Unit (Elt F) ℕ UU ℕ)} :
    recs m ρ K ⊢ iprop(resAt 1 true c (res m ρ 1 true c) -∗ out₀ (1, true) c -∗ hop₁ (true, 2, 1) c -∗ out₁ (0, false) c -∗ out₁ (0, true) c -∗ owesL c (todo 12)
      -∗ ((out₁ (1, true) c ∗ hop₂ (true, 2, 1) c ∗ out₂ m ρ (0, false) c ∗ out₂ m ρ (0, true) c ∗ owesL c (todo 12)) -∗ Q ⟨⟩)
      -∗ run c (k0_part25 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9 ) Q) := by
  rw [k0_part25_eq_skeleton]; unfold k0_part25_skel
  simp only [Prog.lift, Prog.bind_op, Prog.bind_ret, Prog.pure_eq_ret]
  iintro #HR Hrt1 Hot1 Hht21 Hof0 Hot0 HO Hk
  iapply (step_out m ρ K (1, true) c) $$ HR Hot1 Hrt1; iintro Hot1
  iapply (step_departed m ρ K (true, 2, 1) (todo 12) c true 1 1) $$ HR Hht21 HO; iintro ⟨Hht21, HO⟩
  iapply (step_written m ρ K (0, false) c 0 false (todo 12) rfl) $$ HR Hof0 HO; iintro ⟨Hof0, HO⟩
  iapply (step_written m ρ K (0, true) c 0 true (todo 12) rfl) $$ HR Hot0 HO; iintro ⟨Hot0, HO⟩
  iapply (run_ret c)
  iapply Hk
  isplitl [Hot1]; · iexact Hot1
  isplitl [Hht21]; · iexact Hht21
  isplitl [Hof0]; · iexact Hof0
  isplitl [Hot0]; · iexact Hot0
  iexact HO

end Cert.Kern

end
-- ==== Proof.Gate.lean ====
module

public import proofs.«01_k».proof.Proof.Parts

@[expose] public section

noncomputable section

namespace Cert.Kern

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg) (K : Dev nD × CK → ℕ)

/-! # The kernel's body

The gate at the start (the barrier with both neighbours, and the two operands copied to the working buffers), and the
whole body put together from its parts. -/

/-- What a device holds for the gate: the duties of its neighbours' barriers, its own landing slots to give away, and the two
    units it will take from its own barrier. -/
def gate₀ (c : Dev nD) : sProp (MT nD τ sig Unit (Elt F) ℕ UU ℕ) :=
  iprop(dutyTok ER (kcell (peer true c, kBar)) 0 false ∗ dutyTok ER (kcell (peer false c, kBar)) 0 true ∗ gift false c ∗ gift true c
    ∗ cred (tallyAt (kcell (c, kBar)) () 2) ∗ atPos ER (kcell (c, kBar)) 0 ∅ 0)
/-- Past it, its barrier is closed at zero. -/
def gate₁ (c : Dev nD) : sProp (MT nD τ sig Unit (Elt F) ℕ UU ℕ) := semVal (kcell (c, kBar)) 0

/-- The operands' staging buffers, as fetched. -/
def xIn (c : Dev nD) : sProp (MT nD τ sig Unit (Elt F) ℕ UU ℕ) := (c : Thread nD τ).loc cc0_stg0_0 ↦{fullShare} xstg m ρ c
/-- The staged operand `w`, held whole. -/
def wIn (c : Dev nD) : sProp (MT nD τ sig Unit (Elt F) ℕ UU ℕ) := (c : Thread nD τ).loc cc0_stg1_0 ↦{fullShare} wstg m ρ c
/-- A whole buffer, whatever it holds. -/
def anyPt (b : Ref sig .tc) (c : Dev nD) : sProp (MT nD τ sig Unit (Elt F) ℕ UU ℕ) := iprop(∃ f : Buf (Elt F) ((c : Thread nD τ).loc b), (c : Thread nD τ).loc b ↦{fullShare} f)

omit [FloatOps F] in
/-- The zero offset of a whole-array access. -/
theorem hz : (![0, 0] : Fin 2 → ℕ) = fun _ => 0 := funext fun a => by fin_cases a <;> rfl

abbrev allX : Rect S4096x1024 := Rect.unit (s := S4096x1024) ![0, 0] S4096x1024.size inb_S4096x1024_S4096x1024_0_0
abbrev allW : Rect S1024x2048 := Rect.unit (s := S1024x2048) ![0, 0] S1024x2048.size inb_S1024x2048_S1024x2048_0_0

/-- Copying a whole operand to its working buffer leaves the copy there. -/
theorem copyX (c : Dev nD) (f : (cc0_scratch0 : Ref sig .tc).ty.Contents (Elt F)) :
    (xbM.access allX).write (Elt F) f (k0_pay1 (xM.view.readAt (Elt F) allX.toLoadRect (xstg m ρ c))) Finset.univ = xb m ρ c :=
  (Memref.write_access_unit_zero_univ (Elt F) cc0_scratch0 hz _ f _).trans
    (congrArg k0_pay1 (Memref.readAt_unit_zero (Elt F) cc0_stg0_0 hz _ _))
/-- Copying the staged `w` into scratch. -/
theorem copyW (c : Dev nD) (f : (cc0_scratch1 : Ref sig .tc).ty.Contents (Elt F)) :
    (wbM.access allW).write (Elt F) f (k0_pay2 (wM.view.readAt (Elt F) allW.toLoadRect (wstg m ρ c))) Finset.univ = wb m ρ c :=
  (Memref.write_access_unit_zero_univ (Elt F) cc0_scratch1 hz _ f _).trans
    (congrArg k0_pay2 (Memref.readAt_unit_zero (Elt F) cc0_stg1_0 hz _ _))

/-- Signalling the neighbour opposite to direction `d` hands it the device's own landing slots for direction `d`. -/
theorem step_signal (d d' : Bool) (hd : (!d) = d') (c n : Dev nD) (hn : n = peer d' c) (O : CellTallies nD τ sig Unit) (W : Waits sig Unit)
    {α : Type} {Q : α → sProp (MT nD τ sig Unit (Elt F) ℕ UU ℕ)} {k : PUnit → Prog (TpuEff nD τ sig (Elt F) Λ₀ .tc) α} :
    recs m ρ K ⊢ iprop(dutyTok ER (kcell (peer d' c, kBar)) 0 d -∗ gift d c
      -∗ owes (c : Thread nD τ) (O + tallyAt (kcell (peer d' c, kBar)) () 1) W
      -∗ (owes (c : Thread nD τ) O W -∗ run c (k ⟨⟩) Q)
      -∗ run c (.op (.semSignal (Dev.tc n : Thread nD τ) barS (1#32).toNat) k) Q) := by
  subst hn hd
  iintro #HR Ht Hg HO Hk
  iapply (Rounds.wp_signal 𝒱₀ ER (ringRd m ρ) (c : Thread nD τ) none (dst := (peer (!d) c : Thread nD τ)) (κ := K (peer (!d) c, kBar))
      (d := d) (by show d ∈ (ringRd m ρ).duties (kcell (peer (!d) c, kBar)) 0; rw [duties_at]; exact Finset.mem_univ _) ((amount_at m ρ (peer (!d) c) kBar 0 d).trans (by decide)) () O rfl)
    $$ [HO Ht Hg]
  · isplitr; · iapply (recs_inv m ρ K (peer (!d) c, kBar)); iexact HR
    isplitl [HO]; · iexact HO
    isplitl [Ht]; · iexact Ht
    isplitl [Hg]
    · rw [show (ringRd m ρ).payload ((peer (!d) c : Thread nD τ), SemLoc.reg barS) 0 d = barPay d (peer (!d) c) from payload_at m ρ (peer (!d) c) kBar 0 d]
      unfold barPay; rw [peer_peer']; iexact Hg
    · iapply (recs_reached m ρ K (peer (!d) c, kBar)); iexact HR
  iexact Hk

/-- Part 1: the barrier with both neighbours; meanwhile the operands are copied to the working buffers. -/
theorem part1_run (c : Dev nD) (W : Waits sig Unit) {Q : (Σ' (d0 : Dev nD) (v2 : BitVec 32) (v5 : BitVec 32) (v7 : BitVec 32) (v25 : BitVec 32), BitVec 32) → sProp (MT nD τ sig Unit (Elt F) ℕ UU ℕ)} :
    recs m ρ K ⊢ iprop(gate₀ c -∗ owes (c : Thread nD τ) (O₀ c) W -∗ xIn m ρ c -∗ wIn m ρ c -∗ anyPt cc0_scratch0 c -∗ anyPt cc0_scratch1 c
      -∗ (∀ v2 : BitVec 32, ∀ v5 : BitVec 32, ∀ v7 : BitVec 32, ∀ v25 : BitVec 32, ∀ v26 : BitVec 32,
          (gate₁ c ∗ barPay false c ∗ barPay true c ∗ xIn m ρ c ∗ wIn m ρ c ∗ xbPt m ρ c ∗ wbPt m ρ c ∗ owesL c (todo 0)) -∗ Q ⟨c, v2, v5, v7, v25, v26⟩)
      -∗ run c (k0_part1 xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9) Q) := by
  rw [k0_part1_eq_skeleton]; unfold k0_part1_skel
  simp only [semSignalWord, semWaitWord, Prog.lift, Prog.bind_op, Prog.bind_ret, Prog.pure_eq_ret, run, wp_deviceId]
  unfold gate₀ O₀ xIn wIn anyPt
  iintro #HR ⟨Ht, Hf, Hgf, Hgt, Hc, Hat⟩ HO Hx Hw ⟨%f0, Hxb⟩ ⟨%f1, Hwb⟩ Hk
  iapply (step_signal m ρ K false true rfl c _ (dev_eq true c (k0_dev1_eq c)) (O₁ c) W) $$ HR Ht Hgf HO; iintro HO
  unfold O₁
  iapply (step_signal m ρ K true false rfl c _ (dev_eq false c (k0_dev2_eq c)) (owe c order) W) $$ HR Hf Hgt HO; iintro HO
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hxb; iintro Hxb
  iapply (wp_store 𝒱₀ (c : Thread nD τ) none Set.univ (m := xbM) (r := allX) (Mk := Finset.univ) (Finset.subset_univ _)) $$ Hxb; iintro Hxb
  iapply (wp_load 𝒱₀ (c : Thread nD τ) none Set.univ (m := wM) (Finset.subset_univ _)) $$ Hw; iintro Hw
  iapply (wp_load 𝒱₀ (c : Thread nD τ) none Set.univ (m := wbM) (Finset.subset_univ _)) $$ Hwb; iintro Hwb
  iapply (wp_store 𝒱₀ (c : Thread nD τ) none Set.univ (m := wbM) (r := allW) (Mk := Finset.univ) (Finset.subset_univ _)) $$ Hwb; iintro Hwb
  iapply (Rounds.wp_wait_rest_token 𝒱₀ ER (ringRd m ρ) (c : Thread nD τ) none (κ := K (c, kBar))
      (wpE_semWait_eq 𝒱₀ (c : Thread nD τ) none Set.univ) (Set.mem_univ _) () (O := owe c order) (W := W) (R := 0) (m := 0) (T := ∅)
      (by rw [expect_bar]; decide)) $$ [Hc HO Hat]
  · isplitr; · iapply (recs_inv m ρ K (c, kBar)); iexact HR
    isplitl [Hc]; · iexact Hc
    isplitl [HO]; · iexact HO
    isplitr; · iapply (mayWait_owe c kBar order (by decide)); iapply (recs_lev m ρ K); iexact HR
    iexact Hat
  iintro ⟨HO, Hat, -, Hpay⟩
  ihave Hp := (Entails.of_eq (rest_bar m ρ c)) $$ Hpay
  icases Hp with ⟨Hpf, Hpt⟩
  imod (Rounds.cell_close ER (ringRd m ρ) (Set.mem_univ (K (c, kBar))) (fun h => h) (R := 0 + 1) (duties_later m ρ (kcell (c, kBar)))) $$ [Hat] with Hz
  · isplitr; · iapply (recs_inv m ρ K (c, kBar)); iexact HR
    iexact Hat
  iapply (run_ret c)
  iapply Hk
  isplitl [Hz]; · unfold gate₁; iexact Hz
  isplitl [Hpf]; · iexact Hpf
  isplitl [Hpt]; · iexact Hpt
  isplitl [Hx]; · iexact Hx
  isplitl [Hw]; · iexact Hw
  isplitl [Hxb]; · unfold xbPt; rw [← copyX m ρ c f0]; iexact Hxb
  isplitl [Hwb]; · unfold wbPt; rw [← copyW m ρ c f1]; iexact Hwb
  unfold owesL; iexists _; iexact HO

end Cert.Kern

end
-- ==== Proof.Body.lean ====
module

public import proofs.«01_k».proof.Proof.Gate

@[expose] public section

noncomputable section

namespace Cert.Kern

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg) (K : Dev nD × CK → ℕ)

/-! # The whole body -/

/-- The tokens of a hop, without the slot it goes to. -/
def hopT (x : Chan) (c : Dev nD) : sProp (MT nD τ sig Unit (Elt F) ℕ UU ℕ) :=
  iprop(dutyTok ER (kcell (c, kSnd x)) 0 false ∗ dutyTok ER (kcell (peer x.1 c, kRcv x)) 0 false ∗ atPos ER (kcell (c, kSnd x)) 0 ∅ 0)

/-- What the two neighbours hand over at the gate, with the tokens, makes the twelve hops ready. -/
theorem hops_ready (c : Dev nD) :
    iprop(barPay (F := F) false c ∗ barPay true c ∗ bigSep Finset.univ fun x : Chan => hopT x c) ⊢ bigSep Finset.univ fun x : Chan => hop₀ (F := F) x c := by
  have e : (bigSep Finset.univ fun x : Chan => slotAny (F := F) x.1 x.2.1.castSucc x.2.2 (peer x.1 c)) = iprop(barPay false c ∗ barPay true c) := by
    rw [bigSep_univ_prod, bigSep_univ_eq_bigSepL [false, true] (by decide) (by decide)]; rfl
  unfold hop₀
  rw [bigSep_sep', e]
  unfold hopT
  iintro ⟨Hf, Ht, H⟩
  isplitl [Hf Ht]
  · isplitl [Hf] <;> iassumption
  iexact H

/-- The hops, the two sides' two row blocks, and the output tiles, listed. -/
theorem chans (Φ : Chan → sProp (MT nD τ sig Unit (Elt F) ℕ UU ℕ)) : bigSep Finset.univ Φ
    = iprop(Φ (false, 0, 0) ∗ Φ (true, 0, 0) ∗ Φ (false, 0, 1) ∗ Φ (true, 0, 1) ∗ Φ (false, 1, 0) ∗ Φ (true, 1, 0) ∗ Φ (false, 1, 1) ∗ Φ (true, 1, 1) ∗ Φ (false, 2, 0) ∗ Φ (true, 2, 0) ∗ Φ (false, 2, 1) ∗ Φ (true, 2, 1)) := by
  rw [bigSep_univ_eq_bigSepL order (by decide) (by decide)]; rfl
/-- A separating product over sides and sub-blocks, written out. -/
theorem sides (Φ : Bool × Fin 2 → sProp (MT nD τ sig Unit (Elt F) ℕ UU ℕ)) : bigSep Finset.univ Φ
    = iprop(Φ (false, 0) ∗ Φ (true, 0) ∗ Φ (false, 1) ∗ Φ (true, 1)) := by
  rw [bigSep_univ_eq_bigSepL [(false, 0), (true, 0), (false, 1), (true, 1)] (by decide) (by decide)]; rfl
/-- A separating product over the four tiles, written out. -/
theorem tiles (Φ : Fin 2 × Bool → sProp (MT nD τ sig Unit (Elt F) ℕ UU ℕ)) : bigSep Finset.univ Φ
    = iprop(Φ (0, false) ∗ Φ (0, true) ∗ Φ (1, false) ∗ Φ (1, true)) := by
  rw [bigSep_univ_eq_bigSepL [(0, false), (0, true), (1, false), (1, true)] (by decide) (by decide)]; rfl

set_option maxHeartbeats 2000000 in
/-- The body, from what a device holds at its start to what it holds at its end. -/
theorem whole_run (c : Dev nD) (W : Waits sig Unit) {Q : PUnit → sProp (MT nD τ sig Unit (Elt F) ℕ UU ℕ)} :
    recs m ρ K ⊢ iprop(gate₀ c -∗ owes (c : Thread nD τ) (O₀ c) W -∗ xIn m ρ c -∗ wIn m ρ c -∗ anyPt cc0_scratch0 c -∗ anyPt cc0_scratch1 c
      -∗ (bigSep Finset.univ fun x : Chan => hopT x c) -∗ (bigSep Finset.univ fun x : Chan => arr₀ x c)
      -∗ (bigSep Finset.univ fun y : Bool × Fin 2 => slotAny y.1 3 y.2 c)
      -∗ (bigSep Finset.univ fun y : Fin 2 × Bool => resAny y.1 y.2 c) -∗ (bigSep Finset.univ fun y : Fin 2 × Bool => out₀ y c)
      -∗ ((gate₁ c ∗ xIn m ρ c ∗ wIn m ρ c ∗ xbPt m ρ c ∗ wbPt m ρ c
          ∗ (bigSep Finset.univ fun x : Chan => hop₂ x c) ∗ (bigSep Finset.univ fun x : Chan => arr₁ x c)
          ∗ (bigSep Finset.univ fun y : Bool × Fin 2 => slotAny y.1 2 y.2 c)
          ∗ (bigSep Finset.univ fun y : Fin 2 × Bool => out₂ m ρ y c) ∗ owesL c (todo 12)) -∗ Q ⟨⟩)
      -∗ run c (cc0_body xM (Memref.isWhole_whole _) wM (Memref.isWhole_whole _) outM (Memref.isWhole_whole _) xbM (Memref.isWhole_whole _) wbM (Memref.isWhole_whole _) resM (Memref.isWhole_whole _) (M false) (Memref.isWhole_whole _) (M true) (Memref.isWhole_whole _) cc0_scratch5 cc0_scratch6 cc0_scratch7 cc0_scratch8 cc0_scratch9) Q) := by
  rw [cc0_body_eq_skeleton]; unfold cc0_body_skel
  iintro #HR Hg HO Hxi Hwi Hxb Hwb HT HA HS HRes HOut Hk
  rw [run_bind]
  iapply (part1_run m ρ K c W) $$ HR Hg HO Hxi Hwi Hxb Hwb
  iintro %v2 %v5 %v7 %v25 %v26 ⟨Hg, Hpf, Hpt, Hxi, Hwi, Hx, Hw, HO⟩
  dsimp only
  ihave HH := (hops_ready (F := F) c) $$ [Hpf Hpt HT]
  · isplitl [Hpf]; · iexact Hpf
    isplitl [Hpt] <;> iassumption
  simp only [chans, sides, tiles]
  icases HH with ⟨Hhf00, Hht00, Hhf01, Hht01, Hhf10, Hht10, Hhf11, Hht11, Hhf20, Hht20, Hhf21, Hht21⟩
  icases HA with ⟨Haf00, Hat00, Haf01, Hat01, Haf10, Hat10, Haf11, Hat11, Haf20, Hat20, Haf21, Hat21⟩
  icases HS with ⟨Hsf30, Hst30, Hsf31, Hst31⟩
  icases HRes with ⟨Hrf0, Hrt0, Hrf1, Hrt1⟩
  icases HOut with ⟨Hof0, Hot0, Hof1, Hot1⟩
  rw [run_bind]
  iapply (part2_run m ρ K c _ _ _) $$ HR Hx Hw Hsf30 Hhf00 HO
  iintro %v27 ⟨Hx, Hw, Hhf00, HO⟩
  dsimp only
  rw [run_bind]
  iapply (part3_run m ρ K c _ _) $$ HR Hst30 Hht00 Hx Hw Hsf31 HO
  iintro ⟨Hht00, Hx, Hw, Hsf31, HO⟩
  rw [run_bind]
  iapply (part4_run m ρ K c _ _ _) $$ HR Hsf31 Hhf01 Hx Hw Hst31 HO
  iintro ⟨Hhf01, Hx, Hw, Hst31, HO⟩
  rw [run_bind]
  iapply (part5_run m ρ K c _ _) $$ HR Hst31 Hht01 Hx Hw HO
  iintro %v111 %v114 ⟨Hht01, Hx, Hw, HO⟩
  dsimp only
  rw [run_bind]
  iapply (part6_run m ρ K c _) $$ HR Haf00 Hhf10 HO
  iintro ⟨Haf00, Hhf10, HO⟩
  rw [run_bind]
  iapply (part7_run m ρ K c _) $$ HR Hhf00 Hat00 HO
  iintro %v175 %v176 ⟨Hhf00, Hat00, Hst00, HO⟩
  dsimp only
  rw [run_bind]
  iapply (part8_run m ρ K c _ _ _ _) $$ HR Hst00 Hht10 Hht00 Hx Hw HO
  iintro ⟨Hht10, Hht00, Hx, Hw, HO⟩
  dsimp only
  rw [run_bind]
  iapply (part9_run m ρ K c _) $$ HR Haf01 HO
  iintro ⟨Haf01, Hsf01, HO⟩
  rw [run_bind]
  iapply (part10_run m ρ K c _) $$ HR Hsf01 Hhf11 Hhf01 Hat01 HO
  iintro ⟨Hhf11, Hhf01, Hat01, Hst01, HO⟩
  dsimp only
  rw [run_bind]
  iapply (part11_run m ρ K c _ _) $$ HR Hst01 Hht11 Hht01 HO
  iintro %v270 %v272 ⟨Hht11, Hht01, HO⟩
  dsimp only
  rw [run_bind]
  iapply (part12_run m ρ K c _ _ _) $$ HR Hx Hw Haf10 HO
  iintro %v273 ⟨Hx, Hw, Haf10, Hsf10, HO⟩
  dsimp only
  rw [run_bind]
  iapply (part13_run m ρ K c _) $$ HR Hsf10 Hhf20 Hhf10 HO
  iintro %w ⟨Hhf20, Hhf10, HO⟩
  rw [run_bind]
  iapply (part14_run m ρ K c _ _) $$ HR Hat10 Hht20 HO
  iintro ⟨Hat10, Hht20, HO⟩
  rw [run_bind]
  iapply (part15_run m ρ K c _ _ _) $$ HR Hht10 Hx Hw HO
  iintro ⟨Hht10, Hx, Hw, HO⟩
  dsimp only
  rw [run_bind]
  iapply (part16_run m ρ K c _) $$ HR Haf11 Hhf21 HO
  iintro ⟨Haf11, Hhf21, HO⟩
  rw [run_bind]
  iapply (part17_run m ρ K c _) $$ HR Hhf11 Hat11 HO
  iintro ⟨Hhf11, Hat11, Hst11, HO⟩
  rw [run_bind]
  iapply (part18_run m ρ K c _) $$ HR Hst11 Hht21 Hht11 Hx Hw HO
  iintro %v429 %v432 %v440 ⟨Hht21, Hht11, Hx, Hw, HO⟩
  dsimp only
  rw [run_bind]
  iapply (part19_run m ρ K c _ _) $$ HR Hx Hw Haf20 HO
  iintro ⟨Hx, Hw, Haf20, Hsf20, HO⟩
  dsimp only
  rw [run_bind]
  iapply (part20_run m ρ K c _) $$ HR Hrf0 Hof0 Hhf20 HO
  iintro ⟨Hof0, Hhf20, HO⟩
  rw [run_bind]
  iapply (part21_run m ρ K c) $$ HR Hat20 Hrt0 Hot0 HO
  iintro ⟨Hat20, Hst20, Hot0, HO⟩
  rw [run_bind]
  iapply (part22_run m ρ K c _ _ _) $$ HR Hht20 Hx Hw Haf21 HO
  iintro ⟨Hht20, Hx, Hw, Haf21, Hsf21, HO⟩
  dsimp only
  rw [run_bind]
  iapply (part23_run m ρ K c) $$ HR Hrf1 Hof1
  iintro Hof1
  rw [run_bind]
  iapply (part24_run m ρ K c _) $$ HR Hhf21 Hat21 Hrt1 HO
  iintro ⟨Hhf21, Hat21, Hst21, Hrt1, HO⟩
  rw [run_bind]
  iapply (part25_run m ρ K c) $$ HR Hrt1 Hot1 Hht21 Hof0 Hot0 HO
  iintro ⟨Hot1, Hht21, Hof0, Hot0, HO⟩
  simp only [Prog.lift, Prog.bind_op, Prog.bind_ret, Prog.pure_eq_ret]
  iapply (step_written m ρ K (1, false) c 1 false (todo 12) rfl) $$ HR Hof1 HO; iintro ⟨Hof1, HO⟩
  iapply (step_written m ρ K (1, true) c 1 true (todo 12) rfl) $$ HR Hot1 HO; iintro ⟨Hot1, HO⟩
  iapply (run_ret c)
  iapply Hk
  isplitl [Hg]; · iexact Hg
  isplitl [Hxi]; · iexact Hxi
  isplitl [Hwi]; · iexact Hwi
  isplitl [Hx]; · iexact Hx
  isplitl [Hw]; · iexact Hw
  isplitl [Hhf00 Hht00 Hhf01 Hht01 Hhf10 Hht10 Hhf11 Hht11 Hhf20 Hht20 Hhf21 Hht21]
  · isplitl [Hhf00]; · iexact Hhf00
    isplitl [Hht00]; · iexact Hht00
    isplitl [Hhf01]; · iexact Hhf01
    isplitl [Hht01]; · iexact Hht01
    isplitl [Hhf10]; · iexact Hhf10
    isplitl [Hht10]; · iexact Hht10
    isplitl [Hhf11]; · iexact Hhf11
    isplitl [Hht11]; · iexact Hht11
    isplitl [Hhf20]; · iexact Hhf20
    isplitl [Hht20]; · iexact Hht20
    isplitl [Hhf21]; · iexact Hhf21
    iexact Hht21
  isplitl [Haf00 Hat00 Haf01 Hat01 Haf10 Hat10 Haf11 Hat11 Haf20 Hat20 Haf21 Hat21]
  · isplitl [Haf00]; · iexact Haf00
    isplitl [Hat00]; · iexact Hat00
    isplitl [Haf01]; · iexact Haf01
    isplitl [Hat01]; · iexact Hat01
    isplitl [Haf10]; · iexact Haf10
    isplitl [Hat10]; · iexact Hat10
    isplitl [Haf11]; · iexact Haf11
    isplitl [Hat11]; · iexact Hat11
    isplitl [Haf20]; · iexact Haf20
    isplitl [Hat20]; · iexact Hat20
    isplitl [Haf21]; · iexact Haf21
    iexact Hat21
  isplitl [Hsf20 Hst20 Hsf21 Hst21]
  · isplitl [Hsf20]; · iapply (slotAt_any _ _ _ _ _); iexact Hsf20
    isplitl [Hst20]; · iapply (slotAt_any _ _ _ _ _); iexact Hst20
    isplitl [Hsf21]; · iapply (slotAt_any _ _ _ _ _); iexact Hsf21
    iapply (slotAt_any _ _ _ _ _); iexact Hst21
  isplitl [Hof0 Hot0 Hof1 Hot1]
  · isplitl [Hof0]; · iexact Hof0
    isplitl [Hot0]; · iexact Hot0
    isplitl [Hof1]; · iexact Hof1
    iexact Hot1
  iexact HO

end Cert.Kern

end
-- ==== Proof.Slots.lean ====
module

public import proofs.«01_k».proof.Proof.Body

@[expose] public section

noncomputable section

namespace Cert.Kern

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## A buffer cut into parts, each element lying in the part its key names -/

omit [FloatOps F] in
/-- Element sets given by a key are disjoint and fill the buffer. -/
theorem key_parts {ℓ : Loc nD τ sig} {T : Type} [Fintype T] [DecidableEq T] (S : T → Finset (Idx ℓ)) (key : Idx ℓ → T) (h : ∀ i t, i ∈ S t ↔ t = key i) :
    (∀ t ∈ (Finset.univ : Finset T), ∀ t' ∈ (Finset.univ : Finset T), t ≠ t' → Disjoint (S t) (S t'))
      ∧ (Finset.univ : Finset T).biUnion S = Finset.univ := by
  refine ⟨fun t _ t' _ hne => Finset.disjoint_left.mpr fun i hi hi' => hne (((h i t).1 hi).trans ((h i t').1 hi').symm), ?_⟩
  refine Finset.eq_univ_iff_forall.mpr fun i => Finset.mem_biUnion.mpr ⟨key i, Finset.mem_univ _, (h i _).2 rfl⟩

omit [FloatOps F] in
/-- A whole buffer is its parts, -/
theorem cut_whole {ℓ : Loc nD τ sig} {T : Type} [Fintype T] [DecidableEq T] (S : T → Finset (Idx ℓ)) (key : Idx ℓ → T) (h : ∀ i t, i ∈ S t ↔ t = key i)
    (f : Buf (Elt F) ℓ) : iprop(ℓ ↦{fullShare} f) ⊢ (bigSep Finset.univ fun t => iprop(∃ g, ℓ ↦[S t]{fullShare} g) : sProp 𝕄) := by
  obtain ⟨hd, hu⟩ := key_parts S key h
  rw [← hu, pointsTo_biUnion _ _ hd]
  exact bigSep_mono fun t _ => show (ℓ ↦[S t]{fullShare} f : sProp 𝕄) ⊢ iprop(∃ g, ℓ ↦[S t]{fullShare} g) by iintro H; iexists f; iexact H

omit [FloatOps F] in
/-- and parts with contents of which something is known make up a buffer of which the same is known part by part. -/
theorem join_whole {ℓ : Loc nD τ sig} {T : Type} [Fintype T] [DecidableEq T] (S : T → Finset (Idx ℓ)) (key : Idx ℓ → T) (h : ∀ i t, i ∈ S t ↔ t = key i)
    (R : T → Buf (Elt F) ℓ → Prop) (hR : ∀ t f g, (∀ i ∈ S t, g i = f i) → R t f → R t g) (hne : ∀ t, ∃ f, R t f) (t₀ : T) :
    (bigSep Finset.univ fun t => iprop(∃ f, ⌜R t f⌝ ∗ ℓ ↦[S t]{fullShare} f) : sProp 𝕄) ⊢ iprop(∃ g, ⌜∀ t, R t g⌝ ∗ ℓ ↦{fullShare} g) := by
  obtain ⟨hd, hu⟩ := key_parts S key h
  haveI : ∀ t, Nonempty {f // R t f} := fun t => let ⟨f, hf⟩ := hne t; ⟨⟨f, hf⟩⟩
  have h₁ : (bigSep Finset.univ fun t => iprop(∃ f, ⌜R t f⌝ ∗ ℓ ↦[S t]{fullShare} f) : sProp 𝕄)
      ⊢ bigSep Finset.univ fun t => iprop(∃ f : {f // R t f}, ℓ ↦[S t]{fullShare} f.1) :=
    bigSep_mono fun t _ => show iprop(∃ f, ⌜R t f⌝ ∗ ℓ ↦[S t]{fullShare} f) ⊢ (iprop(∃ f : {f // R t f}, ℓ ↦[S t]{fullShare} f.1) : sProp 𝕄) by
      iintro ⟨%f, %hf, H⟩; iexists ⟨f, hf⟩; iexact H
  refine (h₁.trans (Idealize.SL.BI.bigSep_exists_pi (Y := fun t => {f // R t f}) Finset.univ fun t f => (ℓ ↦[S t]{fullShare} f.1 : sProp 𝕄))).trans ?_
  iintro ⟨%fs, H⟩
  ihave H := (pointsTo_biUnion_join Finset.univ S (fun t => (fs t).1) (fs t₀).1 hd) $$ H
  icases H with ⟨%g, %hg, H⟩
  iexists g
  isplitr
  · ipureintro; exact fun t => hR t _ _ (hg t (Finset.mem_univ t)) (fs t).2
  rw [hu]
  iexact H

omit [FloatOps F] in
/-- Parts of unknown contents make up a buffer of unknown contents. -/
theorem join_any {ℓ : Loc nD τ sig} {T : Type} [Fintype T] [DecidableEq T] (S : T → Finset (Idx ℓ)) (key : Idx ℓ → T) (h : ∀ i t, i ∈ S t ↔ t = key i) (t₀ : T)
    (f₀ : Buf (Elt F) ℓ) :
    (bigSep Finset.univ fun t => iprop(∃ f, ℓ ↦[S t]{fullShare} f) : sProp 𝕄) ⊢ iprop(∃ g, ℓ ↦{fullShare} g) := by
  have h₁ : (bigSep Finset.univ fun t => iprop(∃ f, ℓ ↦[S t]{fullShare} f) : sProp 𝕄) ⊢ bigSep Finset.univ fun t => iprop(∃ f, ⌜True⌝ ∗ ℓ ↦[S t]{fullShare} f) :=
    bigSep_mono fun t _ => show (iprop(∃ f, ℓ ↦[S t]{fullShare} f) : sProp 𝕄) ⊢ iprop(∃ f, ⌜True⌝ ∗ ℓ ↦[S t]{fullShare} f) by
      iintro ⟨%f, H⟩; iexists f; isplitr; · ipureintro; trivial
      iexact H
  refine h₁.trans ((join_whole S key h (fun _ _ => True) (fun _ _ _ _ _ => trivial) (fun _ => ⟨f₀, trivial⟩) t₀).trans ?_)
  iintro ⟨%g, -, H⟩; iexists g; iexact H

/-! ## The parts of the four buffers -/

omit [FloatOps F] in
/-- The key of an element of the slots: its first two coordinates. -/
theorem mem_slotR (i : S4x2x512x1024.Idx) (x : Fin 4 × Fin 2) : i ∈ (slotR x.1 x.2).set ↔ x = (i 0, i 1) := by
  rw [Rect.mem_set_unit]
  constructor
  · intro h
    have h0 := h 0; have h1 := h 1
    simp [slotOff] at h0 h1
    refine Prod.ext (Fin.ext ?_) (Fin.ext ?_) <;> simp <;> omega
  · rintro rfl k
    have h2 : (i 2).val < 512 := (i 2).isLt
    have h3 : (i 3).val < 1024 := (i 3).isLt
    fin_cases k <;> simp [slotOff] <;> omega

/-- A half's number read back. -/
theorem hlf_lt (d : Bool) : hlf d < 2 := by cases d <;> decide
/-- The side of a column half given by its number. -/
def side (n : ℕ) : Bool := decide (n = 1)
/-- The side of a half is the side. -/
theorem side_hlf (d : Bool) : side (hlf d) = d := by cases d <;> rfl
/-- The half of a side is the number. -/
theorem hlf_side (n : ℕ) (h : n < 2) : hlf (side n) = n := by
  match n, h with
  | 0, _ => rfl
  | 1, _ => rfl

/-- The key of an element of the results: its first two coordinates, -/
theorem mem_resR (i : S2x2x512x1024.Idx) (y : Fin 2 × Bool) : i ∈ (resR y.1 y.2).set ↔ y = (i 0, side (i 1).val) := by
  rw [Rect.mem_set_unit]
  have h1 : (i 1).val < 2 := (i 1).isLt
  have h2 : (i 2).val < 512 := (i 2).isLt
  have h3 : (i 3).val < 1024 := (i 3).isLt
  constructor
  · intro h
    have h0 := h 0; have h1 := h 1
    simp [resOff] at h0 h1
    have e : (i 1).val = hlf y.2 := by omega
    refine Prod.ext (Fin.ext ?_) ?_
    · simp; omega
    · show y.2 = side (i 1).val; rw [e, side_hlf]
  · rintro rfl k
    have e := hlf_side _ h1
    fin_cases k <;> simp [resOff] <;> omega

/-- and of one of the output: the half it lies in along each axis. -/
theorem mem_outR (i : S1024x2048.Idx) (y : Fin 2 × Bool) :
    i ∈ (outR y.1 y.2).set ↔ y = (⟨(i 0).val / 512, by have h : (i 0).val < 1024 := (i 0).isLt; omega⟩, side ((i 1).val / 1024)) := by
  rw [Rect.mem_set_unit]
  have h0 : (i 0).val < 1024 := (i 0).isLt
  have h1 : (i 1).val < 2048 := (i 1).isLt
  constructor
  · intro h
    have h0 := h 0; have h1 := h 1
    simp [outOff] at h0 h1
    have e : (i 1).val / 1024 = hlf y.2 := by omega
    refine Prod.ext (Fin.ext ?_) ?_
    · simp; omega
    · show y.2 = side ((i 1).val / 1024); rw [e, side_hlf]
  · rintro rfl k
    have e := hlf_side ((i 1).val / 1024) (by omega)
    fin_cases k <;> simp [outOff] <;> omega

/-! ## Cutting and joining them -/

omit [FloatOps F] in
/-- The elements of a slot of the first ring. -/
theorem slots_set_false (a s) : (slotM false a s).view.set = (slotR a s).set := (slot_set false a s).trans (View.set_slice_whole _ _)
omit [FloatOps F] in
/-- The elements of a slot of the second ring. -/
theorem slots_set_true (a s) : (slotM true a s).view.set = (slotR a s).set := (slot_set true a s).trans (View.set_slice_whole _ _)
omit [FloatOps F] in
/-- The elements of a result slot. -/
theorem ress_set (s d) : (resS s d).view.set = (resR s d).set := (res_set s d).trans (View.set_slice_whole _ _)
omit [FloatOps F] in
/-- The elements of a result tile. -/
theorem outs_set (s d) : (outS s d).view.set = (outR s d).set := View.set_slice_whole _ _

omit [FloatOps F] in
/-- The buffer of slots of one direction is cut into its slots -/
theorem slots_cutF (c : Dev nD) : (anyPt cc0_scratch3 c : sProp 𝕄) ⊢ bigSep Finset.univ fun x : Fin 4 × Fin 2 => slotAny false x.1 x.2 c := by
  unfold anyPt slotAny slotPt
  iintro ⟨%f, H⟩
  iapply (cut_whole (ℓ := (c : Thread nD τ).loc cc0_scratch3) (fun x : Fin 4 × Fin 2 => (slotM false x.1 x.2).view.set) (fun i : S4x2x512x1024.Idx => (i 0, i 1))
    (fun i x => by rw [slots_set_false]; exact mem_slotR i x) f) $$ H

omit [FloatOps F] in
/-- and joined from them, whatever they hold. -/
theorem slots_joinF (c : Dev nD) (f₀ : Vec F S4x2x512x1024 .bf16) :
    (bigSep Finset.univ fun x : Fin 4 × Fin 2 => slotAny false x.1 x.2 c : sProp 𝕄) ⊢ anyPt cc0_scratch3 c := by
  unfold anyPt slotAny slotPt
  exact join_any (ℓ := (c : Thread nD τ).loc cc0_scratch3) (fun x : Fin 4 × Fin 2 => (slotM false x.1 x.2).view.set) (fun i : S4x2x512x1024.Idx => (i 0, i 1))
    (fun i x => by rw [slots_set_false]; exact mem_slotR i x) (0, 0) f₀

omit [FloatOps F] in
/-- The buffer of slots of one direction is cut into its slots -/
theorem slots_cutT (c : Dev nD) : (anyPt cc0_scratch4 c : sProp 𝕄) ⊢ bigSep Finset.univ fun x : Fin 4 × Fin 2 => slotAny true x.1 x.2 c := by
  unfold anyPt slotAny slotPt
  iintro ⟨%f, H⟩
  iapply (cut_whole (ℓ := (c : Thread nD τ).loc cc0_scratch4) (fun x : Fin 4 × Fin 2 => (slotM true x.1 x.2).view.set) (fun i : S4x2x512x1024.Idx => (i 0, i 1))
    (fun i x => by rw [slots_set_true]; exact mem_slotR i x) f) $$ H

omit [FloatOps F] in
/-- and joined from them, whatever they hold. -/
theorem slots_joinT (c : Dev nD) (f₀ : Vec F S4x2x512x1024 .bf16) :
    (bigSep Finset.univ fun x : Fin 4 × Fin 2 => slotAny true x.1 x.2 c : sProp 𝕄) ⊢ anyPt cc0_scratch4 c := by
  unfold anyPt slotAny slotPt
  exact join_any (ℓ := (c : Thread nD τ).loc cc0_scratch4) (fun x : Fin 4 × Fin 2 => (slotM true x.1 x.2).view.set) (fun i : S4x2x512x1024.Idx => (i 0, i 1))
    (fun i x => by rw [slots_set_true]; exact mem_slotR i x) (0, 0) f₀

omit [FloatOps F] in
/-- The results' buffer is cut into its tiles -/
theorem ress_cut (c : Dev nD) : (anyPt cc0_scratch2 c : sProp 𝕄) ⊢ bigSep Finset.univ fun y : Fin 2 × Bool => resAny y.1 y.2 c := by
  unfold anyPt resAny resPt
  iintro ⟨%f, H⟩
  iapply (cut_whole (ℓ := (c : Thread nD τ).loc cc0_scratch2) (fun y : Fin 2 × Bool => (resS y.1 y.2).view.set) (fun i : S2x2x512x1024.Idx => (i 0, side (i 1).val))
    (fun i y => by rw [ress_set]; exact mem_resR i y) f) $$ H

omit [FloatOps F] in
/-- and joined from them. -/
theorem ress_join (c : Dev nD) (f₀ : Vec F S2x2x512x1024 .f32) : (bigSep Finset.univ fun y : Fin 2 × Bool => resAny y.1 y.2 c : sProp 𝕄) ⊢ anyPt cc0_scratch2 c := by
  unfold anyPt resAny resPt
  exact join_any (ℓ := (c : Thread nD τ).loc cc0_scratch2) (fun y : Fin 2 × Bool => (resS y.1 y.2).view.set) (fun i : S2x2x512x1024.Idx => (i 0, side (i 1).val))
    (fun i y => by rw [ress_set]; exact mem_resR i y) (0, false) f₀

omit [FloatOps F] in
/-- The output is cut into its tiles, -/
theorem outs_cut (c : Dev nD) (f : Buf (Elt F) ((c : Thread nD τ).loc main_v1)) :
    ((c : Thread nD τ).loc main_v1 ↦{fullShare} f : sProp 𝕄) ⊢ bigSep Finset.univ fun y : Fin 2 × Bool => outAny y.1 y.2 c := by
  unfold outAny outPt
  exact cut_whole (ℓ := (c : Thread nD τ).loc main_v1) (fun y : Fin 2 × Bool => (outS y.1 y.2).view.set)
    (fun i : S1024x2048.Idx => (⟨(i 0).val / 512, by have h : (i 0).val < 1024 := (i 0).isLt; omega⟩, side ((i 1).val / 1024)))
    (fun i y => by rw [outs_set]; exact mem_outR i y) f

omit [FloatOps F] in
/-- and four tiles holding known vectors are an output that reads so tile by tile. -/
theorem outs_join (c : Dev nD) (f₀ : Buf (Elt F) ((c : Thread nD τ).loc main_v1)) (V : Fin 2 → Bool → Vec F S1x1x512x1024 .f32) :
    (bigSep Finset.univ fun y : Fin 2 × Bool => outAt y.1 y.2 c (V y.1 y.2) : sProp 𝕄)
      ⊢ iprop(∃ g : Buf (Elt F) ((c : Thread nD τ).loc main_v1), ⌜∀ y : Fin 2 × Bool, (outS y.1 y.2).view.read (Elt F) g = fun i => V y.1 y.2 (Shape.reshapeEquiv numelQB i)⌝
        ∗ (c : Thread nD τ).loc main_v1 ↦{fullShare} g) := by
  unfold outAt outPt
  exact join_whole (ℓ := (c : Thread nD τ).loc main_v1) (fun y : Fin 2 × Bool => (outS y.1 y.2).view.set)
    (fun i : S1024x2048.Idx => (⟨(i 0).val / 512, by have h : (i 0).val < 1024 := (i 0).isLt; omega⟩, side ((i 1).val / 1024)))
    (fun i y => by rw [outs_set]; exact mem_outR i y)
    (fun y g => (outS y.1 y.2).view.read (Elt F) g = fun i => V y.1 y.2 (Shape.reshapeEquiv numelQB i))
    (fun y f g hfg hf => (View.read_congr (v := (outS y.1 y.2).view) fun i hi => hfg i hi).trans hf)
    (fun y => ⟨(outS y.1 y.2).view.write (Elt F) f₀ (fun i => V y.1 y.2 (Shape.reshapeEquiv numelQB i)) Finset.univ,
      View.read_write_univ _ _⟩) (0, false)

/-! ## Slots regrouped -/

omit [FloatOps F] in
/-- A separating product over three, written out. -/
theorem threes (Φ : Fin 3 → sProp 𝕄) : bigSep Finset.univ Φ = iprop(Φ 0 ∗ Φ 1 ∗ Φ 2) := bigSep_univ_eq_bigSepL [0, 1, 2] (by decide) (by decide) Φ

omit [FloatOps F] in
/-- A separating product over four, written out. -/
theorem fours (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- Four rows of slots: the first three, which the neighbour fills, and the last. -/
theorem four_rows (Φ : Fin 4 → Fin 2 → sProp 𝕄) :
    (bigSep Finset.univ fun x : Fin 4 × Fin 2 => Φ x.1 x.2) ⊢ iprop((bigSep Finset.univ fun x : Fin 3 × Fin 2 => Φ x.1.castSucc x.2) ∗ bigSep Finset.univ fun s : Fin 2 => Φ 3 s) := by
  rw [bigSep_univ_prod, bigSep_univ_prod, fours, threes]
  iintro ⟨H0, H1, H2, H3⟩
  isplitl [H0 H1 H2]
  · isplitl [H0]; · iexact H0
    isplitl [H1]; · iexact H1
    iexact H2
  iexact H3

omit [FloatOps F] in
/-- The rows left at the end: those sent from, and the one last received into. -/
theorem rows_back (Φ : Fin 4 → Fin 2 → sProp 𝕄) :
    iprop((bigSep Finset.univ fun x : Fin 3 × Fin 2 => Φ (srcIx x.1) x.2) ∗ bigSep Finset.univ fun s : Fin 2 => Φ 2 s) ⊢ bigSep Finset.univ fun x : Fin 4 × Fin 2 => Φ x.1 x.2 := by
  rw [bigSep_univ_prod, bigSep_univ_prod, fours, threes]
  iintro ⟨⟨H0, H1, H2⟩, H3⟩
  isplitl [H1]; · iexact H1
  isplitl [H2]; · iexact H2
  isplitl [H3]; · iexact H3
  iexact H0

omit [FloatOps F] in
/-- A separating product over the two sides, written out. -/
theorem bools (Φ : Bool → sProp 𝕄) : (bigSep Finset.univ Φ) = iprop(Φ false ∗ Φ true) := by
  rw [bigSep_univ_eq_bigSepL [false, true] (by decide) (by decide)]; rfl

omit [FloatOps F] in
/-- All slots at the start: the two gifts, and the rows first sent from. -/
theorem slots_open (c : Dev nD) :
    iprop(anyPt cc0_scratch3 c ∗ anyPt cc0_scratch4 c : sProp 𝕄) ⊢ iprop(gift false c ∗ gift true c ∗ bigSep Finset.univ fun y : Bool × Fin 2 => slotAny y.1 3 y.2 c) := by
  unfold gift
  rw [bigSep_univ_prod (α := Bool), bools]
  iintro ⟨H0, H1⟩
  ihave H0 := ((slots_cutF c).trans (four_rows fun a s => slotAny false a s c)) $$ H0
  ihave H1 := ((slots_cutT c).trans (four_rows fun a s => slotAny true a s c)) $$ H1
  icases H0 with ⟨A0, B0⟩
  icases H1 with ⟨A1, B1⟩
  isplitl [A0]; · iexact A0
  isplitl [A1]; · iexact A1
  isplitl [B0]; · iexact B0
  iexact B1

omit [FloatOps F] in
/-- All slots at the end. -/
theorem slots_close (c : Dev nD) (f₀ : Vec F S4x2x512x1024 .bf16) :
    iprop((bigSep Finset.univ fun x : Chan => slotAny x.1 (srcIx x.2.1) x.2.2 c) ∗ (bigSep Finset.univ fun y : Bool × Fin 2 => slotAny y.1 2 y.2 c) : sProp 𝕄)
      ⊢ iprop(anyPt cc0_scratch3 c ∗ anyPt cc0_scratch4 c) := by
  rw [bigSep_univ_prod (α := Bool), bools, bigSep_univ_prod (α := Bool), bools]
  iintro ⟨⟨A0, A1⟩, B0, B1⟩
  isplitl [A0 B0]
  · iapply ((rows_back fun a s => slotAny false a s c).trans (slots_joinF c f₀)) $$ [A0 B0]
    isplitl [A0]; · iexact A0
    iexact B0
  · iapply ((rows_back fun a s => slotAny true a s c).trans (slots_joinT c f₀)) $$ [A1 B1]
    isplitl [A1]; · iexact A1
    iexact B1

end Cert.Kern
-- ==== Proof.Setup.lean ====
module

public import proofs.«01_k».proof.Proof.Slots

@[expose] public section

noncomputable section

namespace Cert.Kern

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## One device's cells, kind by kind -/

omit [FloatOps F] in
/-- What is held cell by cell is held for the barrier, the departures, the arrivals and the output copies. -/
theorem by_kind (Φ : CK → sProp 𝕄) :
    bigSep Finset.univ Φ = iprop(Φ kBar ∗ (bigSep Finset.univ fun x : Chan => Φ (kSnd x)) ∗ (bigSep Finset.univ fun x : Chan => Φ (kRcv x))
      ∗ bigSep Finset.univ fun y : Fin 2 × Bool => Φ (kOut y)) := by
  rw [bigSep_univ_sum, bigSep_univ_sum, bigSep_univ_sum, bigSep_univ_eq_bigSepL [()] (by decide) (by decide)]
  rfl

omit [FloatOps F] in
/-- A persistent fact goes with every part. -/
theorem with_all {I : Type} [DecidableEq I] {S : Finset I} {R : sProp 𝕄} [BI.Persistent R] {Φ Ψ : I → sProp 𝕄} (h : ∀ i ∈ S, iprop(R ∗ Φ i) ⊢ Ψ i) :
    iprop(R ∗ bigSep S Φ) ⊢ bigSep S Ψ := by
  refine (sep_mono_left (BI.bigSep_of_persistent S R)).trans ?_
  rw [← bigSep_sep']
  exact bigSep_mono h

/-- The kernel's own semaphores are all but the barrier's. -/
abbrev osem (k : Chan ⊕ (Chan ⊕ (Fin 2 × Bool))) : SemLoc sig := csem (.inr k)

/-- A number from 2 on in the pool is that of a semaphore of the kernel, not of a staging buffer's. -/
theorem ownSemFacts : Pipeline.OwnSemFacts cfg0.spec osem where
  isScoped := by decide +kernel
  inj := csem_injective.comp Sum.inr_injective
  disj k w s h := by
    have hk : kOf (osem k) = some (.inr k) := kOf_csem _
    rw [h] at hk
    have : kOf (SemLoc.dma ((cfg0.spec w).sem s) : SemLoc sig) = none := by fin_cases w <;> fin_cases s <;> rfl
    rw [this] at hk
    exact absurd hk (by simp)

/-- The cells of the mesh, -/
def cellsAll : Finset (GSem nD τ sig) := Finset.univ.map ⟨kcell, kcell_injective⟩
/-- and the duties minted for them: one for each, and a second one at a barrier. -/
abbrev tokOf (x : Dev nD × (Unit ⊕ CK)) : GSem nD τ sig × ℕ × Bool := match x.2 with
  | .inl _ => (kcell (x.1, kBar), 0, true)
  | .inr k => (kcell (x.1, k), 0, false)
/-- Different payments have different tokens. -/
theorem tokOf_injective : Function.Injective tokOf := by
  rintro ⟨c, u | k⟩ ⟨c', u' | k'⟩ h
  · have e := kcell_injective (congrArg (fun x : GSem nD τ sig × ℕ × Bool => x.1) h)
    rw [show c = c' from congrArg Prod.fst e]
  · exact absurd (congrArg (fun x : GSem nD τ sig × ℕ × Bool => x.2.2) h) (by simp [tokOf])
  · exact absurd (congrArg (fun x : GSem nD τ sig × ℕ × Bool => x.2.2) h) (by simp [tokOf])
  · have e := kcell_injective (congrArg (fun x : GSem nD τ sig × ℕ × Bool => x.1) h)
    rw [show c = c' from congrArg Prod.fst e, show k = k' from congrArg Prod.snd e]
/-- All tokens of all payments. -/
def toksAll : Finset (GSem nD τ sig × ℕ × Bool) := Finset.univ.map ⟨tokOf, tokOf_injective⟩

/-- The launch's ghost element: the pipeline's own, and the rounds'. -/
def u₀ : UU := (initOf (Pipeline.cells cfgs cellOf_inj) (Pipeline.launchToks cfgs cellOf_inj), initOf cellsAll toksAll)

/-- The duties of a device's own cells, as minted. -/
def toks (c : Dev nD) : sProp 𝕄 :=
  iprop(dutyTok ER (kcell (c, kBar)) 0 true ∗ bigSep Finset.univ fun k : CK => dutyTok ER (kcell (c, k)) 0 false)
/-- The duties a device pays. -/
def pays (c : Dev nD) : sProp 𝕄 :=
  iprop(dutyTok ER (kcell (peer false c, kBar)) 0 true ∗ dutyTok ER (kcell (peer true c, kBar)) 0 false
    ∗ (bigSep Finset.univ fun x : Chan => dutyTok ER (kcell (c, kSnd x)) 0 false)
    ∗ (bigSep Finset.univ fun x : Chan => dutyTok ER (kcell (peer x.1 c, kRcv x)) 0 false)
    ∗ bigSep Finset.univ fun y : Fin 2 × Bool => dutyTok ER (kcell (c, kOut y)) 0 false)
/-- Its places at its cells. -/
def places (c : Dev nD) : sProp 𝕄 := bigSep Finset.univ fun k : CK => atPos ER (kcell (c, k)) 0 ∅ 0

/-- What the launch element gives device `c`. -/
def G (c : Dev nD) : sProp 𝕄 :=
  iprop((bigSep Finset.univ fun k : CK => roundState ER (ringRd m ρ) (kcell (c, k)) 0) ∗ (bigSep Finset.univ fun k : CK => reached ER (kcell (c, k)) 0)
    ∗ places c ∗ toks c)

/-- The ghost state of all cells is funded. -/
theorem fund_all : BI.own (ER (initOf cellsAll toksAll)) ⊢ (|==> bigSep Finset.univ (G m ρ) : sProp 𝕄) := by
  have hX (Φ : GSem nD τ sig → sProp 𝕄) : bigSep cellsAll Φ = bigSep Finset.univ fun c : Dev nD => bigSep Finset.univ fun k : CK => Φ (kcell (c, k)) := by
    unfold cellsAll; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    exact bigSep_congr fun c _ => by
      unfold toks; rw [bigSep_univ_sum, bigSep_univ_eq_bigSepL [()] (by decide) (by decide)]; rfl
  iintro H
  imod (Rounds.fund ER (ringRd m ρ) cellsAll toksAll) $$ H with ⟨Hst, Hr, Hat, Ht⟩
  imodintro
  ihave Hst := (Entails.of_eq (hX fun g => roundState ER (ringRd m ρ) g 0)) $$ Hst
  ihave Hr := (Entails.of_eq (hX fun g => reached ER g 0)) $$ Hr
  ihave Hat := (Entails.of_eq (hX fun g => atPos ER g 0 ∅ 0)) $$ Hat
  ihave Ht := (Entails.of_eq hT) $$ Ht
  unfold G places; simp only [bigSep_sep']
  isplitl [Hst]; · iexact Hst
  isplitl [Hr]; · iexact Hr
  isplitl [Hat]; · iexact Hat
  iexact Ht

/-! ## Invariants at the launch -/

/-- The own and the unscoped semaphores at zero are all the cells at zero. -/
theorem sems_eq (c : Dev nD) :
    iprop(Pipeline.ownSems0 (Ix := Unit) (Name := ℕ) (U := UU) (Lvl := ℕ) (Val := Elt F) (τ := τ) osem c ∗ unscopedSems0 c : sProp 𝕄)
      ⊢ bigSep Finset.univ fun k : CK => semVal (kcell (c, k)) 0 := by
  unfold Pipeline.ownSems0 unscopedSems0
  rw [bigSep_eq_bigSepL_of_eq [SemLoc.reg barS] (by decide) (by decide), bigSep_univ_sum (α := Unit), bigSep_univ_eq_bigSepL [()] (by decide) (by decide)]
  exact sep_comm.1

/-- One device's invariants are allocated from its counters. -/
theorem alloc_one (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (ringRd m ρ) κ (kcell (c, k))))
          ∗ (bigSep Finset.univ fun k : CK => reached ER (kcell (c, k)) 0) ∗ places c ∗ toks c) := by
  unfold G
  iintro ⟨Hos, Hus, Hst, Hrest⟩
  ihave Hv := (sems_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k : CK => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  iexact Hrest

/-- Every cell's invariant, and that every cell is at its round. -/
def records : sProp 𝕄 :=
  iprop((bigSep Finset.univ fun ck : Dev nD × CK => cellInv ER (ringRd m ρ) (K ck) (kcell ck)) ∗ bigSep Finset.univ fun ck : Dev nD × CK => reached ER (kcell ck) 0)
instance records_persistent : BI.Persistent (records m ρ K) := by unfold records; infer_instance

/-- What the global step makes of it. -/
def G' (c : Dev nD) : sProp 𝕄 := iprop((∃ K, records m ρ K) ∗ places c ∗ pays c)

/-- A hop's device and channel, moved along the hop. -/
def along : Dev nD × Chan ≃ Dev nD × Chan where
  toFun p := (peer p.2.1 p.1, p.2)
  invFun p := (peer (!p.2.1) p.1, p.2)
  left_inv p := by simp only [peer_peer]
  right_inv p := by simp only [peer_peer']

/-- The duties dealt to those who pay them. -/
theorem toks_dealt : (bigSep Finset.univ fun c : Dev nD => (toks c : sProp 𝕄)) ⊢ bigSep Finset.univ fun c : Dev nD => pays c := by
  have e : (bigSep Finset.univ fun c : Dev nD => bigSep Finset.univ fun x : Chan => (dutyTok ER (kcell (c, kRcv x)) 0 false : sProp 𝕄))
      = bigSep Finset.univ fun c : Dev nD => bigSep Finset.univ fun x : Chan => dutyTok ER (kcell (peer x.1 c, kRcv x)) 0 false := by
    rw [← bigSep_univ_prod (fun p : Dev nD × Chan => (dutyTok ER (kcell (p.1, kRcv p.2)) 0 false : sProp 𝕄)), bigSep_univ_equiv along, bigSep_univ_prod]
    rfl
  unfold toks pays
  simp only [by_kind, bigSep_sep']
  rw [e, bigSep_univ_equiv (ring false) (fun c : Dev nD => (dutyTok ER (kcell (c, kBar)) 0 true : sProp 𝕄)),
    bigSep_univ_equiv (ring true) (fun c : Dev nD => (dutyTok ER (kcell (c, kBar)) 0 false : sProp 𝕄))]
  exact .rfl

/-- The tokens, grouped by the devices that pay with them. -/
theorem regroup :
    (bigSep Finset.univ fun c : Dev nD => iprop((bigSep Finset.univ fun k : CK => iprop(∃ κ : ℕ, cellInv ER (ringRd m ρ) κ (kcell (c, k))))
          ∗ (bigSep Finset.univ fun k : CK => reached ER (kcell (c, k)) 0) ∗ places c ∗ toks c) : sProp 𝕄)
      ⊢ bigSep Finset.univ (G' m ρ) := by
  simp only [bigSep_sep']
  rw [← bigSep_univ_prod (fun ck : Dev nD × CK => iprop(∃ κ : ℕ, cellInv ER (ringRd m ρ) κ (kcell ck))),
    ← bigSep_univ_prod (fun ck : Dev nD × CK => (reached ER (kcell ck) 0 : sProp 𝕄))]
  iintro ⟨HI, #HR, Hat, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Ht := (toks_dealt (F := F)) $$ Htok
  iapply (with_all (R := records m ρ K) (Φ := fun c : Dev nD => iprop(places c ∗ pays c)) fun c _ => show _ ⊢ G' m ρ c from by
    unfold G'
    iintro ⟨#HR, H⟩
    isplitr
    · iexists K; iexact HR
    iexact H)
  isplitr
  · unfold records; isplitl; · iexact HI
    iexact HR
  rw [bigSep_sep']
  isplitl [Hat]; · iexact Hat
  iexact Ht

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_one m ρ c).trans (bigSep_fupd _ _)).trans (BI.fupd_mono (regroup m ρ))

/-! ## The credit at the launch -/

/-- Being the neighbour of, read the other way. -/
theorem peer_iff (d : Bool) (a b : Dev nD) : peer d a = b ↔ a = peer (!d) b :=
  ⟨fun h => by rw [← h, peer_peer], fun h => by rw [h, peer_peer']⟩

/-- Hops owe a barrier nothing, -/
theorem owe_bar (d c : Dev nD) (l : List Chan) : owe d l (kcell (c, kBar)) () = 0 := by
  induction l with
  | nil => rfl
  | cons x l ih =>
    unfold owe
    rw [Pi.add_apply, Finsupp.add_apply, ih, tallyAt_ne_cell (fun h => by have := congrArg Prod.snd (kcell_injective h); simp at this), Finsupp.zero_apply, Nat.add_zero]

/-- and an arrival cell what the hops into it bring. -/
theorem owe_rcv (d c : Dev nD) (x : Chan) (l : List Chan) : owe d l (kcell (c, kRcv x)) () = if d = peer (!x.1) c then l.count x * N else 0 := by
  induction l with
  | nil => simp [owe]
  | cons y l ih =>
    unfold owe
    rw [Pi.add_apply, Finsupp.add_apply, ih, tallyAt_apply, List.count_cons]
    by_cases hd : d = peer (!x.1) c
    · rw [if_pos hd, if_pos hd, Nat.add_mul]
      congr 1
      by_cases hy : y = x
      · subst hy
        rw [if_pos ⟨by rw [(peer_iff y.1 d c).2 hd], rfl⟩, if_pos (by simp), Nat.one_mul]
      · rw [if_neg (fun h => hy ?_), if_neg (by simpa using hy), Nat.zero_mul]
        have e := congrArg Prod.snd (kcell_injective h.1)
        simp only [Sum.inr.injEq, Sum.inl.injEq] at e
        exact e.symm
    · rw [if_neg hd, if_neg hd, Nat.zero_add, if_neg]
      rintro ⟨h, -⟩
      have e := kcell_injective h
      have e₂ := congrArg Prod.snd e
      simp only [Sum.inr.injEq, Sum.inl.injEq] at e₂
      subst e₂
      exact hd ((peer_iff x.1 d c).1 (congrArg Prod.fst e).symm)

/-- Each hop is owed once. -/
theorem order_count (x : Chan) : order.count x = 1 := by revert x; decide +kernel

/-- What device `d` owes device `c`'s barrier: one unit for each side it lies on. -/
theorem owed_bar (d c : Dev nD) : O₀ d (kcell (c, kBar)) () = (if d = peer true c then 1 else 0) + (if d = peer false c then 1 else 0) := by
  unfold O₀ O₁
  rw [Pi.add_apply, Finsupp.add_apply, Pi.add_apply, Finsupp.add_apply, owe_bar, tallyAt_apply, tallyAt_apply, Nat.zero_add]
  have h (b : Bool) : (kcell (c, kBar) = kcell (peer b d, kBar) ∧ () = ()) ↔ d = peer (!b) c :=
    ⟨fun ⟨h, _⟩ => (peer_iff b d c).1 (congrArg Prod.fst (kcell_injective h)).symm, fun h => ⟨by rw [(peer_iff b d c).2 h], rfl⟩⟩
  rw [if_congr (h false) rfl rfl, if_congr (h true) rfl rfl]; rfl

/-- What device `d` owes at an arrival cell of device `c`. -/
theorem owed_rcv (d c : Dev nD) (x : Chan) : O₀ d (kcell (c, kRcv x)) () = if d = peer (!x.1) c then N else 0 := by
  unfold O₀ O₁
  have h (b : Bool) : kcell (c, kRcv x) ≠ kcell (peer b d, kBar) := fun h => by have := congrArg Prod.snd (kcell_injective h); simp at this
  rw [Pi.add_apply, Finsupp.add_apply, Pi.add_apply, Finsupp.add_apply, owe_rcv, tallyAt_ne_cell (h false), tallyAt_ne_cell (h true), Finsupp.zero_apply,
    order_count, Nat.one_mul, Nat.add_zero, Nat.add_zero]

/-- The credits at a barrier cell add up. -/
theorem launch_bar (c : Dev nD) :
    tallyOn (kcell (c, kBar)) (launchCredit (Pipeline.owing O₀) 0 (kcell (c, kBar))) = (tallyAt (kcell (c, kBar)) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer true c) fun _ => 1, Finset.sum_ite_eq' Finset.univ (peer false c) fun _ => 1, if_pos (Finset.mem_univ _), if_pos (Finset.mem_univ _)]

/-- The credits at an arrival cell add up. -/
theorem launch_rcv (c : Dev nD) (x : Chan) :
    tallyOn (kcell (c, kRcv x)) (launchCredit (Pipeline.owing O₀) 0 (kcell (c, kRcv x))) = (tallyAt (kcell (c, kRcv x)) () N : CellTallies nD τ sig Unit) := by
  unfold tallyAt; refine congrArg _ (Finsupp.ext fun u => ?_); cases u
  rw [Pipeline.launchCredit_owing, Finsupp.single_eq_same, Finset.sum_congr rfl fun d _ => owed_rcv d c x,
    Finset.sum_ite_eq' Finset.univ (peer (!x.1) c) fun _ => N, if_pos (Finset.mem_univ _)]

/-- Of the launch's credit a device keeps its barrier's two units and each arrival's. -/
theorem creds (c : Dev nD) :
    (Pipeline.launchCred O₀ c : sProp 𝕄) ⊢ iprop(cred (tallyAt (kcell (c, kBar)) () 2) ∗ bigSep Finset.univ fun x : Chan => cred (tallyAt (kcell (c, kRcv x)) () N)) := by
  unfold Pipeline.launchCred
  refine (bigSep_subset (Finset.subset_univ (Finset.univ.map ⟨csem, csem_injective⟩))).trans ?_
  rw [bigSep_map, by_kind]
  refine (show _ ⊢ iprop(cred (tallyOn (kcell (c, kBar)) (launchCredit (Pipeline.owing O₀) 0 (kcell (c, kBar))))
    ∗ (bigSep Finset.univ fun x : Chan => cred (tallyOn (kcell (c, kSnd x)) (launchCredit (Pipeline.owing O₀) 0 (kcell (c, kSnd x)))))
    ∗ (bigSep Finset.univ fun x : Chan => cred (tallyOn (kcell (c, kRcv x)) (launchCredit (Pipeline.owing O₀) 0 (kcell (c, kRcv x)))))
    ∗ bigSep Finset.univ fun y : Fin 2 × Bool => cred (tallyOn (kcell (c, kOut y)) (launchCredit (Pipeline.owing O₀) 0 (kcell (c, kOut y))))) from Entails.rfl).trans ?_
  simp only [launch_bar, launch_rcv]
  iintro ⟨Hb, -, Hr, -⟩
  isplitl [Hb]; · iexact Hb
  iexact Hr

end Cert.Kern
-- ==== Proof.Run.lean ====
module

public import proofs.«01_k».proof.Proof.Setup
public import Idealize.ShloMosaic.Lib.Pipeline.CollectiveSegs

@[expose] public section

noncomputable section

namespace Cert.Kern

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## What a device holds before and after the body -/

/-- The output reads, tile by tile, what the hops computed. -/
def TilesOk (c : Dev nD) (g : Buf (Elt F) ((c : Thread nD τ).loc main_v1)) : Prop :=
  ∀ y : Fin 2 × Bool, (outS y.1 y.2).view.read (Elt F) g = fun i => res m ρ y.1 y.2 c (Shape.reshapeEquiv numelQB i)

/-- The output whole, whatever it holds, -/
def outAll (c : Dev nD) : sProp 𝕄 := (c : Thread nD τ).loc main_v1 ↦{fullShare} m ((c : Thread nD τ).loc main_v1)
/-- and written. -/
def outDone (c : Dev nD) : sProp 𝕄 :=
  iprop(∃ g : Buf (Elt F) ((c : Thread nD τ).loc main_v1), ⌜TilesOk m ρ c g⌝ ∗ (c : Thread nD τ).loc main_v1 ↦{fullShare} g)

/-- The working buffers. -/
def scratch (c : Dev nD) : sProp 𝕄 :=
  iprop(anyPt cc0_scratch0 c ∗ anyPt cc0_scratch1 c ∗ anyPt cc0_scratch2 c ∗ anyPt cc0_scratch3 c ∗ anyPt cc0_scratch4 c)

/-- What a device starts from: places, duties and records, the launch's credit, the levels and the output. -/
def start (c : Dev nD) : sProp 𝕄 :=
  iprop(G' m ρ c ∗ (cred (tallyAt (kcell (c, kBar)) () 2) ∗ bigSep Finset.univ fun x : Chan => cred (tallyAt (kcell (c, kRcv x)) () N))
    ∗ levAts L lv ∗ outAll m c)
/-- What the body starts from. -/
def Φ₀ (c : Dev nD) : sProp 𝕄 := iprop(start m ρ c ∗ scratch c)
/-- All its cells at zero. -/
def shut (c : Dev nD) : sProp 𝕄 := bigSep Finset.univ fun k : CK => semVal (kcell (c, k)) 0
/-- What the body ends with. -/
def Φ₁ (c : Dev nD) : sProp 𝕄 := iprop(shut c ∗ outDone m ρ c ∗ scratch c)

/-- The region's data: the operands are fetched once and never written. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- Holding a whole buffer, as a pipeline states it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ ((c : Thread nD τ).loc b) ↦{fullShare} f) := by
  unfold owns; simp only [Memref.view_whole, View.read_whole, View.set_whole]

/-- A buffer at given contents, as a window hands it over. -/
abbrev held (c : Dev nD) (b : Ref sig .tc) (X : b.ty.Contents (Elt F)) : sProp 𝕄 :=
  iprop(∃ f : Buf (Elt F) (((c : Dev nD) : Thread nD τ).loc b), ⌜f = X⌝ ∗ ((c : Thread nD τ).loc b) ↦{fullShare} f)

/-- The body's precondition and postcondition. -/
def pre (c : Dev nD) : sProp 𝕄 :=
  iprop(Φ₀ m ρ c ∗ (dats m ρ 0 c).owesAt () t0_0.castSucc
    ∗ (∃ d, held c cc0_stg0_0 ((dats m ρ 0 c).before (0 : Fin 2) t0_0 d)) ∗ (∃ d, held c cc0_stg1_0 ((dats m ρ 0 c).before (1 : Fin 2) t0_0 d)))
/-- What is known of a device at the end. -/
def post (c : Dev nD) : sProp 𝕄 :=
  iprop(Φ₁ m ρ c ∗ (dats m ρ 0 c).owesAt () t0_0.succ ∗ held c cc0_stg0_0 (xstg m ρ c) ∗ held c cc0_stg1_0 (wstg m ρ c))

/-- At the start everything is sorted by hop and tile. -/
theorem sorted (c : Dev nD) :
    iprop(places c ∗ pays c ∗ (cred (tallyAt (kcell (c, kBar)) () 2) ∗ bigSep Finset.univ fun x : Chan => cred (tallyAt (kcell (c, kRcv x)) () N))
      ∗ outAll m c ∗ gift false c ∗ gift true c : sProp 𝕄)
      ⊢ iprop(gate₀ c ∗ (bigSep Finset.univ fun x : Chan => hopT x c) ∗ (bigSep Finset.univ fun x : Chan => arr₀ x c) ∗ bigSep Finset.univ fun y : Fin 2 × Bool => out₀ y c) := by
  unfold places pays outAll gate₀ hopT arr₀ out₀
  rw [by_kind]
  simp only [bigSep_sep']
  iintro ⟨⟨PB, PS, PR, PO⟩, ⟨TT, TF, TS, TR, TO⟩, ⟨CB, CR⟩, HO, GF, GT⟩
  ihave HO := (outs_cut c _) $$ HO
  isplitl [TT TF GF GT CB PB]
  · isplitl [TF]; · iexact TF
    isplitl [TT]; · iexact TT
    isplitl [GF]; · iexact GF
    isplitl [GT]; · iexact GT
    isplitl [CB] <;> iassumption
  isplitl [TS TR PS]
  · isplitl [TS]; · iexact TS
    isplitl [TR] <;> iassumption
  isplitl [CR PR]
  · isplitl [CR] <;> iassumption
  isplitl [HO]; · iexact HO
  isplitl [TO] <;> iassumption

/-- At the end it is put together again. -/
theorem gathered (c : Dev nD) :
    iprop(gate₁ c ∗ xbPt m ρ c ∗ wbPt m ρ c ∗ (bigSep Finset.univ fun x : Chan => hop₂ x c) ∗ (bigSep Finset.univ fun x : Chan => arr₁ x c)
      ∗ (bigSep Finset.univ fun y : Bool × Fin 2 => slotAny y.1 2 y.2 c) ∗ bigSep Finset.univ fun y : Fin 2 × Bool => out₂ m ρ y c) ⊢ Φ₁ m ρ c := by
  unfold Φ₁ shut scratch outDone hop₂ arr₁ gate₁ out₂ xbPt wbPt TilesOk
  rw [by_kind]
  simp only [bigSep_sep']
  iintro ⟨HB, HX, HW, ⟨ZS, SS⟩, ZR, S2, ZO, HO, HR⟩
  ihave HO := (outs_join c (m ((c : Thread nD τ).loc main_v1)) (fun s d => res m ρ s d c)) $$ HO
  ihave HR := (ress_join c (m ((c : Thread nD τ).loc cc0_scratch2))) $$ HR
  ihave HS := (slots_close c (m ((c : Thread nD τ).loc cc0_scratch3))) $$ [SS S2]
  · isplitl [SS] <;> iassumption
  isplitl [HB ZS ZR ZO]
  · isplitl [HB]; · iexact HB
    isplitl [ZS]; · iexact ZS
    isplitl [ZR] <;> iassumption
  isplitl [HO]; · iexact HO
  isplitl [HX]; · unfold anyPt; iexists _; iexact HX
  isplitl [HW]; · unfold anyPt; iexists _; iexact HW
  isplitl [HR]; · iexact HR
  iexact HS

set_option maxHeartbeats 800000 in
/-- The body from its precondition to its postcondition. -/
theorem body_ok (c : Dev nD) : pre m ρ c ⊢ run c (cc0_body xM (Memref.isWhole_whole _) wM (Memref.isWhole_whole _) outM (Memref.isWhole_whole _) xbM (Memref.isWhole_whole _) wbM (Memref.isWhole_whole _) resM (Memref.isWhole_whole _)
    (M false) (Memref.isWhole_whole _) (M true) (Memref.isWhole_whole _) cc0_scratch5 cc0_scratch6 cc0_scratch7 cc0_scratch8 cc0_scratch9) (fun _ => post m ρ c) := by
  unfold pre Φ₀ start G' scratch
  iintro ⟨⟨⟨⟨⟨%K, #HR⟩, HP, HT⟩, HC, #HL, HO⟩, S0, S1, S2, S3, S4⟩, Ho, ⟨%d0, %g0, %hg0, Hx⟩, ⟨%d1, %g1, %hg1, Hw⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  ihave HS := (slots_open (F := F) c) $$ [S3 S4]
  · isplitl [S3] <;> iassumption
  icases HS with ⟨GF, GT, SS⟩
  ihave HR2 := (ress_cut (F := F) c) $$ S2
  ihave H := (sorted m c) $$ [HP HT HC HO GF GT]
  · isplitl [HP]; · iexact HP
    isplitl [HT]; · iexact HT
    isplitl [HC]; · iexact HC
    isplitl [HO]; · iexact HO
    isplitl [GF] <;> iassumption
  icases H with ⟨HG, HH, HA, HO⟩
  unfold Dat.owesAt Pipeline.owesWithin
  rw [show (dats m ρ 0 c).owed t0_0.castSucc = O₀ c from rfl]
  icases Ho with ⟨%W, %hW, Ho⟩
  ihave HRec : recs m ρ K $$ []
  · unfold recs records
    icases HR with ⟨#H1, #H2⟩
    isplitr; · iexact H1
    isplitr; · iexact H2
    iexact HL
  iapply (whole_run m ρ K c W) $$ HRec HG Ho [Hx] [Hw] S0 S1 HH HA SS HR2 HO
  · unfold xIn; iexact Hx
  · unfold wIn; iexact Hw
  iintro ⟨HG, Hx, Hw, S0, S1, HH, HA, SS, HO, Ho⟩
  ihave HΦ := (gathered m ρ c) $$ [HG S0 S1 HH HA SS HO]
  · isplitl [HG]; · iexact HG
    isplitl [S0]; · iexact S0
    isplitl [S1]; · iexact S1
    isplitl [HH]; · iexact HH
    isplitl [HA]; · iexact HA
    isplitl [SS] <;> iassumption
  unfold post Dat.owesAt Pipeline.owesWithin owesL xIn wIn
  rw [show (dats m ρ 0 c).owed t0_0.succ = 0 from rfl, show owe c (todo 12) = 0 from rfl]
  isplitl [HΦ]; · iexact HΦ
  isplitl [Ho]
  · icases Ho with ⟨%W', Ho⟩
    iexists W'
    isplitr; · ipureintro; exact fun _ _ => Or.inl trivial
    iexact Ho
  isplitl [Hx]
  · iexists _; isplitr; · (ipureintro; rfl)
    iexact Hx
  iexists _; isplitr; · (ipureintro; rfl)
  iexact Hw

set_option maxRecDepth 8000 in
/-- The library's body obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_ok m ρ c

/-! ## The launch -/

/-- The windows are held in full. -/
theorem share_eq (c : Dev nD) (w : Fin cfg0.W) : (dats m ρ 0 c).share w = fullShare := by unfold Dat.share; split <;> rfl

/-- The starting state from what the launch hands out. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨HO, HL, HC, -, HG⟩
  ihave HC := (creds (F := F) c) $$ HC
  imodintro
  unfold start outAll
  isplitl
  · isplitl [HG]; · iexact HG
    isplitl [HC]; · iexact HC
    isplitl [HL] <;> iassumption
  iempintro

/-- The launch gives the body what it starts from. -/
theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch anyPt
  iintro ⟨Hs, -, Hr⟩
  isplitl [Hs] <;> iassumption

/-- At the end every counter is zero and given back. -/
theorem sems_back (c : Dev nD) : (shut c : sProp 𝕄) ⊢ iprop(unscopedSems0 c ∗ Pipeline.ownSems0 osem c) := by
  unfold shut Pipeline.ownSems0 unscopedSems0
  rw [bigSep_eq_bigSepL_of_eq [SemLoc.reg barS] (by decide) (by decide), bigSep_univ_sum (α := Unit), bigSep_univ_eq_bigSepL [()] (by decide) (by decide)]
  exact .rfl

/-- What the region leaves: the barrier at zero and the output. -/
def left (c : Dev nD) : sProp 𝕄 := iprop(unscopedSems0 c ∗ outDone m ρ c)

/-- What the body ends with gives what is known at the end. -/
theorem phi_out (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scopedRest0_eq]
  unfold Φ₁ left scratch anyPt
  iintro ⟨Hz, HO, Hs⟩
  ihave Hz := (sems_back (F := F) c) $$ Hz
  icases Hz with ⟨H1, H2⟩
  isplitl [H1 HO]
  · isplitl [H1] <;> iassumption
  isplitl [H2] <;> iassumption

/-- The waits of the windows lie below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The last state's memory and semaphores, read off what is left. -/
theorem read_left (c : Dev nD) (s' : Phys nD τ sig (Elt F)) :
    iprop(left m ρ c ∗ emp ∗ SI s') ⊢ |={Set.univ}=> (iprop(⌜(∀ sm : SemLoc sig, sm.isScoped .tc = false → s'.mem.sem ((c.tc : Thread nD τ), sm) = 0)
      ∧ TilesOk m ρ c (s'.mem.mem ((c : Thread nD τ).loc main_v1))⌝ ∗ SI s') : sProp 𝕄) := by
  unfold left outDone
  iintro ⟨⟨HU, ⟨%g, %hg, HO⟩⟩, -, HSI⟩
  ihave H := (pointsTo_read_all ({()} : Finset Unit) (fun _ => (c : Thread nD τ).loc main_v1) (fun _ => g) s') $$ [HO HSI]
  · isplitl [HO]
    · rw [bigSep_singleton]; iexact HO
    iexact HSI
  icases H with ⟨%hv, HSI⟩
  imod (Pipeline.unscopedSems0_read (X := unscopedSems0 c) (c := c) fupd_intro s') $$ [HU HSI] with ⟨%hs, HSI⟩
  · isplitl [HU] <;> iassumption
  imodintro
  isplitr
  · ipureintro; exact ⟨hs, by rw [hv () (Finset.mem_singleton_self _)]; exact hg⟩
  iexact HSI

set_option maxRecDepth 8000 in
/-- From any memory with every counter at zero, every weakly fair execution of the program on the four devices ends, with
    both operands as they were, the output written tile by tile, and every counter at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ TilesOk m ρ c (r.2.mem ((c : Thread nD τ).loc main_v1))) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro H
      ihave H := (ownU_pair _ _) $$ H
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi_in m ρ) (hout := phi_out m ρ)
    (QY := fun c s => (∀ sm : SemLoc sig, sm.isScoped .tc = false → s.sem ((c.tc : Thread nD τ), sm) = 0)
      ∧ TilesOk m ρ c (s.mem ((c : Thread nD τ).loc main_v1)))
    (hY := fun c s' => read_left m ρ c s')
    (hQ := fun _ h hs => ⟨fun c => ⟨((h c).1 (0 : Fin 2)).trans ((dats (F := F) m ρ 0 c).arrAt_in (0 : Fin 2) rfl _),
      ((h c).1 (1 : Fin 2)).trans ((dats (F := F) m ρ 0 c).arrAt_in (1 : Fin 2) rfl _), (h c).2.2.2⟩, sem_eq_zero hs fun c => (h c).2.2.1⟩)

end Cert.Kern
-- ==== Proof.Frames.lean ====
module

public import proofs.«01_k».proof.Defs
public import proofs.«01_k».proof.Proof.Gen.Kernel
public import proofs.«01_k».proof.Proof.Run

@[expose] public section

noncomputable section

namespace Cert.Kern

open Idealize.ShloMosaic Idealize.SL.Sem

/-- The ideal program ends with its arguments and counters as they were. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (run_main (F := Ideal) m ρ)

attribute [local instance] Cert.Kernel.Gen.facts Cert.KernelIdeal.Gen.facts

set_option maxRecDepth 16000 in
/-- The bodies the two programs call are the same. -/
theorem defs₀_same : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | 0, (t, s) => rfl

/-- So are the two programs' tables of definitions. -/
theorem defs_same : Cert.Kernel.defs (F := Bits) = Cert.KernelIdeal.defs (F := Bits) :=
  congrArg (Pipeline.defs Cert.KernelIdeal.pcfgs) defs₀_same

set_option maxRecDepth 16000 in
/-- So does the program on bits, whose text is the same. -/
theorem frame_kernel : Cert.quiescent_Kernel (hKernel := Cert.Kernel.Gen.facts) := fun m ρ _ =>
  have h : θ_run Cert.KernelIdeal.defs (onTc (τ := Cert.KernelIdeal.τ) (Cert.KernelIdeal.main (F := Bits))) (s₀ m ρ) (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
    (θ_run Cert.KernelIdeal.defs _ _).mono (fun _ h => ⟨fun c => ⟨(h.1 c).1, (h.1 c).2.1⟩, h.2⟩) (run_main (F := Bits) m ρ)
  (congrArg (fun D => θ_run D (onTc (τ := Cert.KernelIdeal.τ) (Cert.KernelIdeal.main (F := Bits))) (s₀ m ρ) (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) defs_same).mpr h

end Cert.Kern

end
-- ==== Proof.Tile.lean ====
module

public import proofs.«01_k».proof.Proof.Run
public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

/-! What one result tile of the kernel holds when numbers are extended reals, as a sum over the four devices. -/

namespace Cert.Kern

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- A device's columns of `x`. -/
abbrev argX (c : Dev nD) : S4096x1024.Idx → EReal := m ((c : Thread nD τ).loc main_arg0)
/-- A device's rows of `w`. -/
abbrev argW (c : Dev nD) : S1024x2048.Idx → EReal := m ((c : Thread nD τ).loc main_arg1)

/-- The activation as the kernel spells it, on one number. -/
def actK (y : EReal) : EReal :=
  FloatOps.ofBits (F := Ideal) .f32 0x3F000000#32 * y
    * (FloatOps.ofBits (F := Ideal) .f32 0x3F800000#32
      + FloatOps.tanh (F := Ideal) (φ := .f32) (FloatOps.ofBits (F := Ideal) .f32 0x3F4C422A#32 * (y + FloatOps.ofBits (F := Ideal) .f32 0x3D372713#32 * y * y * y)))

/-- A slot's contents as a matrix. -/
def flat (v : S1x1x512x1024.Idx → EReal) : S512x1024.Idx → EReal := fun i => v (Shape.reshapeEquiv numelQB i)

/-- The first hop carries the first contribution. -/
theorem flat_first (p : FVec Ideal S512x1024 .f32) : flat (k0_pay5 p) = p :=
  shapeCast_shapeCast (s := S512x1024) (t := S1x1x512x1024) p _ _

/-- A later hop carries what arrived with the contribution added. -/
theorem flat_next (p : FVec Ideal S512x1024 .f32) (v : Vec Ideal S1x1x512x1024 .bf16) : flat (k0_pay10 p v) = fun i => flat v i + p i :=
  shapeCast_shapeCast (s := S512x1024) (t := S1x1x512x1024) (fun i => flat v i + p i) _ _

/-- The result tile is the activation of what arrived with the last contribution added. -/
theorem flat_last (p : FVec Ideal S512x1024 .f32) (v : Vec Ideal S1x1x512x1024 .bf16) : flat (k0_pay29 p v) = fun i => actK (flat v i + p i) :=
  shapeCast_shapeCast (s := S512x1024) (t := S1x1x512x1024) (fun i => actK (flat v i + p i)) _ _

/-- A result tile as the activation of four contributions, in the order in which the ring adds them. -/
theorem flat_res (s : Fin 2) (d : Bool) (c : Dev nD) :
    flat (res m ρ s d c) = fun i => actK (part m ρ d 0 s (peer (!d) (peer (!d) (peer (!d) c))) i + part m ρ d 1 s (peer (!d) (peer (!d) c)) i
      + part m ρ d 2 s (peer (!d) c) i + part m ρ d 3 s c i) := by
  unfold res
  rw [flat_last]
  simp only [sent, flat_next, flat_first]

/-- The whole-block staging and the copy into scratch keep a device's columns of `x`. -/
theorem xb_eq (c : Dev nD) : xb m ρ c = argX m c :=
  (shapeCast_shapeCast (s := S4096x1024) (t := S4096x1024) (xstg m ρ c) _ _).trans (by
    unfold xstg; funext i; exact congrArg (argX m c) (Shape.idx_ext₂ (show 0 * 4096 + 1 * (i 0).val = (i 0).val by omega) (show 0 * 1024 + 1 * (i 1).val = (i 1).val by omega)))

/-- They keep its rows of `w`. -/
theorem wb_eq (c : Dev nD) : wb m ρ c = argW m c :=
  (shapeCast_shapeCast (s := S1024x2048) (t := S1024x2048) (wstg m ρ c) _ _).trans (by
    unfold wstg; funext i; exact congrArg (argW m c) (Shape.idx_ext₂ (show 0 * 1024 + 1 * (i 0).val = (i 0).val by omega) (show 0 * 2048 + 1 * (i 1).val = (i 1).val by omega)))

/-- Row `a` of sub-block `s` of chunk `q`. -/
def rowAt (q : Fin 4) (s : Fin 2) (a : Fin 512) : Fin 4096 := ⟨1024 * q.val + 512 * s.val + a.val, by omega⟩

/-- Column `b` of half `d`. -/
def colAt (d : Bool) (b : Fin 1024) : Fin 2048 := ⟨1024 * hlf d + b.val, by have := hlf_lt d; omega⟩

/-- An entry of a sub-block of rows. -/
theorem xrow_apply (c : Dev nD) (q : Fin 4) (s : Fin 2) (a : Fin 512) (k : Fin 1024) : xrow m ρ c q s (ix2 a k) = argX m c (ix2 (rowAt q s a) k) := by
  unfold xrow
  rw [xb_eq]
  refine congrArg (argX m c) (Shape.idx_ext₂ ?_ ?_)
  · show 1024 * q.val + 512 * s.val + 1 * a.val = 1024 * q.val + 512 * s.val + a.val
    omega
  · show 0 + 1 * k.val = k.val
    omega

/-- An entry of a half of the columns. -/
theorem wcol_apply (c : Dev nD) (d : Bool) (k : Fin 1024) (b : Fin 1024) : wcol m ρ c d (ix2 k b) = argW m c (ix2 k (colAt d b)) := by
  unfold wcol
  rw [wb_eq]
  refine congrArg (argW m c) (Shape.idx_ext₂ ?_ ?_)
  · show 0 + 1 * k.val = k.val
    omega
  · show 1024 * hlf d + 1 * b.val = 1024 * hlf d + b.val
    omega

/-- One contribution: the product of a row of the device's columns of `x` and a column of its rows of `w`. -/
def inner (j : Dev nD) (r : Fin 4096) (l : Fin 2048) : EReal := ∑ k : Fin 1024, argX m j (ix2 r k) * argW m j (ix2 k l)

/-- An entry of a contribution is a sum of 1024 terms. -/
theorem part_apply (d : Bool) (n : ℕ) (s : Fin 2) (c : Dev nD) (a : Fin 512) (b : Fin 1024) :
    part m ρ d n s c (ix2 a b) = inner m c (rowAt (chunk d n c) s a) (colAt d b) := by
  have h := Ideal.matmul_plain_apply (M := 512) (K := 1024) (N := 1024) (φ₁ := .bf16) (φ₂ := .bf16) none (xrow m ρ c (chunk d n c) s) (wcol m ρ c d)
    (constant S512x1024 .f32 0x00000000#32) a b
  refine Eq.trans (show part m ρ d n s c (ix2 a b) = _ from h) ?_
  rw [show constant (F := Ideal) S512x1024 .f32 0x00000000#32 (ix2 a b) = 0 from Ideal.ofBits_zero_f32, zero_add]
  exact Finset.sum_congr rfl fun k _ => by rw [xrow_apply, wcol_apply]

/-- The four contributions that the ring adds into device `c`'s tile all belong to chunk `c`. -/
theorem chunk_ring (d : Bool) (c : Dev nD) :
    chunk d 0 (peer (!d) (peer (!d) (peer (!d) c))) = c ∧ chunk d 1 (peer (!d) (peer (!d) c)) = c
      ∧ chunk d 2 (peer (!d) c) = c ∧ chunk d 3 c = c := by
  revert d c; decide +kernel

/-- Going round the ring from `c` meets each device once. -/
theorem sum_ring (d : Bool) (c : Dev nD) (f : Dev nD → EReal) :
    f (peer (!d) (peer (!d) (peer (!d) c))) + f (peer (!d) (peer (!d) c)) + f (peer (!d) c) + f c = ∑ j, f j := by
  have h : (Finset.univ : Finset (Dev nD)) = {peer (!d) (peer (!d) (peer (!d) c)), peer (!d) (peer (!d) c), peer (!d) c, c} := by
    revert d c; decide +kernel
  have h1 : peer (!d) (peer (!d) (peer (!d) c)) ∉ ({peer (!d) (peer (!d) c), peer (!d) c, c} : Finset (Dev nD)) := by
    revert d c; decide +kernel
  have h2 : peer (!d) (peer (!d) c) ∉ ({peer (!d) c, c} : Finset (Dev nD)) := by revert d c; decide +kernel
  have h3 : peer (!d) c ∉ ({c} : Finset (Dev nD)) := by revert d c; decide +kernel
  rw [h, Finset.sum_insert h1, Finset.sum_insert h2, Finset.sum_insert h3, Finset.sum_singleton, add_assoc, add_assoc]

/-- A result tile, entry by entry. -/
theorem res_apply (s : Fin 2) (d : Bool) (c : Dev nD) (a : Fin 512) (b : Fin 1024) :
    flat (res m ρ s d c) (ix2 a b) = actK (∑ j, inner m j (rowAt c s a) (colAt d b)) := by
  obtain ⟨h0, h1, h2, h3⟩ := chunk_ring d c
  rw [flat_res]
  simp only [part_apply, h0, h1, h2, h3]
  rw [sum_ring d c fun j => inner m j (rowAt c s a) (colAt d b)]

end Cert.Kern

end
-- ==== Proof.RefValue.lean ====
module

public import proofs.«01_k».proof.Defs
public import proofs.«01_k».proof.Proof.Gen.ReferenceIdeal.Run
public import Idealize.ShloMosaic.Lib.StackMember
public import Idealize.ShloMosaic.Lib.ValueIdx
public import Idealize.ShloMosaic.Lib.Quiescent

@[expose] public section

noncomputable section

/-! What the reference computes when numbers are extended reals, and its frame. -/

namespace Cert.Kern.Ref

open Cert.ReferenceIdeal Cert.ReferenceIdeal.Gen
open Idealize.ShloMosaic Idealize.ShloMosaic.TcCoe Idealize.ShloMosaic.ValueIdx Idealize.ShloMosaic.StackMember Idealize.SL.Sem

/-- The reference leaves its arguments as they were; it declares no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- The activation as the reference spells it, on one number. -/
def actR (y : EReal) : EReal :=
  FloatOps.ofBits (F := Ideal) .f32 0x3F000000#32 * y
    * (FloatOps.ofBits (F := Ideal) .f32 0x3F800000#32
      + FloatOps.hostUnary (F := Ideal) (φ := .f32) .tanh (FloatOps.ofBits (F := Ideal) .f32 0x3F4C422A#32 * (y + FloatOps.ofBits (F := Ideal) .f32 0x3D372713#32 * (y * y * y))))

/-- The matrix product of the whole arguments. -/
def prod (A : FVec Ideal S4096x4096 .bf16) (B : FVec Ideal S4096x2048 .bf16) : FVec Ideal S4096x2048 .f32 :=
  Host.dotGeneral dot_S4096x4096_S4096x2048_S4096x2048_1_0_0_1_n_n none (extf .f32 A bitsLt_bf16_f32) (extf .f32 B bitsLt_bf16_f32)

/-- An entry of the product is a sum of 4096 terms. -/
theorem prod_apply (A : FVec Ideal S4096x4096 .bf16) (B : FVec Ideal S4096x2048 .bf16) (r : Fin 4096) (l : Fin 2048) :
    prod A B (ix2 r l) = ∑ k : Fin 4096, A (ix2 r k) * B (ix2 k l) :=
  dotGeneral_plain_apply (m := 4096) (k := 4096) (n := 2048) (φ₁ := .f32) (φ₂ := .f32) none (extf .f32 A bitsLt_bf16_f32) (extf .f32 B bitsLt_bf16_f32) r l

/-- The reference's result: the activation of the product, entry by entry. -/
def out (A : FVec Ideal S4096x4096 .bf16) (B : FVec Ideal S4096x2048 .bf16) : FVec Ideal S4096x2048 .f32 := fun i => actR (prod A B i)

/-- The reference ends with its result and leaves its arguments as they were. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Cert.ReferenceIdeal.Value.run (F := Ideal) m ρ

end Cert.Kern.Ref

end
-- ==== Proof.Equation.lean ====
module

public import proofs.«01_k».proof.Proof.Tile
public import proofs.«01_k».proof.Proof.RefValue
public import Idealize.ShloMosaic.Lib.Pointwise.Sums
public import Idealize.ShloMosaic.Lib.Layout

@[expose] public section

noncomputable section

/-! The kernel's result array is the device's rows of the reference's. -/

namespace Cert.Kern

open Cert.KernelIdeal Cert.KernelIdeal.Gen
open Idealize.ShloMosaic Idealize.ShloMosaic.TcCoe Idealize.SL.Sem

/-- The two spellings of the activation differ in how the cube is bracketed. -/
theorem act_same (y : EReal) : actK y = Ref.actR y := by
  have h : FloatOps.ofBits (F := Ideal) .f32 0x3D372713#32 * y * y * y = FloatOps.ofBits (F := Ideal) .f32 0x3D372713#32 * (y * y * y) := by
    rw [mul_assoc, mul_assoc, mul_assoc]
  unfold actK Ref.actR
  rw [h]
  rfl

variable (m : (ℓ : Loc nD τ sig) → Buf (Elt Ideal) ℓ) (ρ : Dev nD → PrngReg)
variable (A : Cert.ReferenceIdeal.S4096x4096.Idx → EReal) (B : Cert.ReferenceIdeal.S4096x2048.Idx → EReal)

/-- The devices' four products of 1024 terms make the one product of 4096 terms. -/
theorem inner_sum (hx : ∀ c, argX m c = Layout.block ⟨2, ![4096, 1024]⟩ ⟨2, ![4096, 4096]⟩ 1 4 c A)
    (hw : ∀ c, argW m c = Layout.block ⟨2, ![1024, 2048]⟩ ⟨2, ![4096, 2048]⟩ 0 4 c B) (r : Fin 4096) (l : Fin 2048) :
    ∑ j, inner m j r l = Ref.prod A B (ValueIdx.ix2 r l) := by
  rw [Ref.prod_apply, Fin.sum_univ_tiles 4 1024 rfl]
  refine Finset.sum_congr rfl fun j _ => Finset.sum_congr rfl fun k _ => ?_
  rw [hx, hw]
  exact congrArg₂ (· * ·) (congrArg A (Shape.idx_ext₂ rfl rfl)) (congrArg B (Shape.idx_ext₂ rfl rfl))

/-- An array whose four tiles hold the kernel's results is the device's rows of the reference's result. -/
theorem tiles_block (hx : ∀ c, argX m c = Layout.block ⟨2, ![4096, 1024]⟩ ⟨2, ![4096, 4096]⟩ 1 4 c A)
    (hw : ∀ c, argW m c = Layout.block ⟨2, ![1024, 2048]⟩ ⟨2, ![4096, 2048]⟩ 0 4 c B) (c : Dev nD)
    (g : Buf (Elt Ideal) ((c : Thread nD τ).loc main_v1)) (hg : TilesOk m ρ c g) :
    g = Layout.block ⟨2, ![1024, 2048]⟩ ⟨2, ![4096, 2048]⟩ 0 4 c (Ref.out A B) := by
  funext i
  have h0 : (i 0).val < 1024 := (i 0).isLt
  have h1 : (i 1).val < 2048 := (i 1).isLt
  let s : Fin 2 := ⟨(i 0).val / 512, by omega⟩
  let d : Bool := side ((i 1).val / 1024)
  let a : Fin 512 := ⟨(i 0).val % 512, by omega⟩
  let b : Fin 1024 := ⟨(i 1).val % 1024, by omega⟩
  have hd : hlf d = (i 1).val / 1024 := hlf_side (n := (i 1).val / 1024) (by omega)
  have e := congrFun (hg (s, d)) (ValueIdx.ix2 a b)
  have hi : i = (outR s d).emb (ValueIdx.ix2 a b) := Shape.idx_ext₂
    (show (i 0).val = 512 * ((i 0).val / 512) + 1 * ((i 0).val % 512) by omega)
    (show (i 1).val = 1024 * hlf d + 1 * ((i 1).val % 1024) by rw [hd]; omega)
  have hl : g i = flat (res m ρ s d c) (ValueIdx.ix2 a b) := (congrArg g hi).trans e
  rw [hl, res_apply, inner_sum m A B hx hw, act_same]
  refine congrArg (fun j => Ref.actR (Ref.prod A B j)) (Shape.idx_ext₂ ?_ ?_)
  · show 1024 * c.val + 512 * ((i 0).val / 512) + (i 0).val % 512 = c.val * 1024 + (i 0).val
    omega
  · show 1024 * hlf d + (i 1).val % 1024 = (i 1).val
    rw [hd]; omega

/-- The two programs compute the same array. -/
theorem same_result : Cert.algebraic_KernelIdeal_ReferenceIdeal (hKernelIdeal := Cert.KernelIdeal.Gen.facts) (hReferenceIdeal := Cert.ReferenceIdeal.Gen.facts) :=
  fun m ρ m' ρ' _ hin => ⟨_,
    (θ_run Cert.KernelIdeal.defs _ _).mono
      (fun _ h c => ⟨tiles_block m ρ _ _ (fun c => (hin c).1) (fun c => (hin c).2) c _ (h.1 c).2.2, (h.1 c).1, (h.1 c).2.1⟩)
      (run_main (F := Ideal) m ρ),
    (θ_run Cert.ReferenceIdeal.defs _ _).mono (fun _ h => h 0) (Ref.run_reference m' ρ')⟩

end Cert.Kern

end
-- ==== Proof.lean ====
module

public import proofs.«01_k».proof.Defs
public import proofs.«01_k».proof.Proof.Frames
public import proofs.«01_k».proof.Proof.Equation

@[expose] public section

noncomputable section

namespace Cert.Proof

/-- The certificate's claim. -/
theorem claim : Cert.Claim :=
  ⟨Cert.Kernel.Gen.facts, Cert.KernelIdeal.Gen.facts, Cert.ReferenceIdeal.Gen.facts,
    Cert.Kern.frame_kernel, Cert.Kern.frame_ideal, Cert.Kern.Ref.frame_reference, trivial, Cert.Kern.same_result⟩

end Cert.Proof

end
